-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S_ : Shape := ⟨0, ![]⟩
abbrev S8 : Shape := ⟨1, ![8]⟩
abbrev S128x8192 : Shape := ⟨2, ![128, 8192]⟩
abbrev S512x8192 : Shape := ⟨2, ![512, 8192]⟩
abbrev S1 : Shape := ⟨1, ![1]⟩
abbrev S128x4096 : Shape := ⟨2, ![128, 4096]⟩
abbrev S32x8x128 : Shape := ⟨3, ![32, 8, 128]⟩
abbrev S32 : Shape := ⟨1, ![32]⟩
abbrev S128x128 : Shape := ⟨2, ![128, 128]⟩
abbrev S128x512 : Shape := ⟨2, ![128, 512]⟩
abbrev S1x128x8192 : Shape := ⟨3, ![1, 128, 8192]⟩
abbrev S1x1x1 : Shape := ⟨3, ![1, 1, 1]⟩
abbrev S8x128 : Shape := ⟨2, ![8, 128]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 27
  | .vmem => 7
  | .smem => 1
  | _ => 0

abbrev bufTy : (tb : Table) → Fin (tcTables nBuf tb) → BufTy
  | .hbm, ⟨0, _⟩ => ⟨S4096x128, .bf16⟩
  | .hbm, ⟨1, _⟩ => ⟨S4096x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S128x8192, .f32⟩
  | .local _ .vmem, ⟨0, _⟩ => ⟨S4096x128, .bf16⟩
  | .local _ .vmem, ⟨1, _⟩ => ⟨S512x8192, .bf16⟩
  | .local _ .vmem, ⟨2, _⟩ => ⟨S512x8192, .bf16⟩
  | .local _ .vmem, ⟨3, _⟩ => ⟨S128x8192, .f32⟩
  | .local _ .vmem, ⟨4, _⟩ => ⟨S4096x128, .bf16⟩
  | .local _ .vmem, ⟨5, _⟩ => ⟨S128x4096, .bf16⟩
  | .local _ .vmem, ⟨6, _⟩ => ⟨S32x8x128, .f32⟩
  | .local _ .smem, ⟨0, _⟩ => ⟨S8, .i32⟩
  | _, _ => ⟨S4096x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_0 : Ref sig .tc := ⟨.hbm, 18, rfl⟩
abbrev main_call0_v8 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v11 : Ref sig .tc := ⟨.hbm, 26, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 32
abbrev τ : Topo := Topo.v7x

variable {F : FTy → Type} [FloatOps F]

abbrev grid0 : Pipeline.Grid := ⟨1, ![8], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v44 : BitVec 32 := Scalar.addi v2 c1_i32_17
  let c32_i32_18 : BitVec 32 := 32#32
  let v45 : BitVec 32 := Scalar.remsi v44 c32_i32_18
  let c1_i32_20 : BitVec 32 := 1#32
  let v46 : BitVec 32 := Scalar.muli v45 c1_i32_20
  let v47 : BitVec 32 := Scalar.addi c0_i32_21 v46
  v47.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_22 : BitVec 32 := 2#32
  let v48 : BitVec 32 := Scalar.addi v2 c2_i32_22
  let c32_i32_23 : BitVec 32 := 32#32
  let v49 : BitVec 32 := Scalar.remsi v48 c32_i32_23
  let c1_i32_25 : BitVec 32 := 1#32
  let v50 : BitVec 32 := Scalar.muli v49 c1_i32_25
  let v51 : BitVec 32 := Scalar.addi c0_i32_26 v50
  v51.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_27 : BitVec 32 := 3#32
  let v52 : BitVec 32 := Scalar.addi v2 c3_i32_27
  let c32_i32_28 : BitVec 32 := 32#32
  let v53 : BitVec 32 := Scalar.remsi v52 c32_i32_28
  let c1_i32_30 : BitVec 32 := 1#32
  let v54 : BitVec 32 := Scalar.muli v53 c1_i32_30
  let v55 : BitVec 32 := Scalar.addi c0_i32_31 v54
  v55.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_32 : BitVec 32 := 4#32
  let v56 : BitVec 32 := Scalar.addi v2 c4_i32_32
  let c32_i32_33 : BitVec 32 := 32#32
  let v57 : BitVec 32 := Scalar.remsi v56 c32_i32_33
  let c1_i32_35 : BitVec 32 := 1#32
  let v58 : BitVec 32 := Scalar.muli v57 c1_i32_35
  let v59 : BitVec 32 := Scalar.addi c0_i32_36 v58
  v59.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v60 : BitVec 32 := Scalar.addi v2 c5_i32
  let c32_i32_37 : BitVec 32 := 32#32
  let v61 : BitVec 32 := Scalar.remsi v60 c32_i32_37
  let c1_i32_39 : BitVec 32 := 1#32
  let v62 : BitVec 32 := Scalar.muli v61 c1_i32_39
  let v63 : BitVec 32 := Scalar.addi c0_i32_40 v62
  v63.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v64 : BitVec 32 := Scalar.addi v2 c6_i32
  let c32_i32_41 : BitVec 32 := 32#32
  let v65 : BitVec 32 := Scalar.remsi v64 c32_i32_41
  let c1_i32_43 : BitVec 32 := 1#32
  let v66 : BitVec 32 := Scalar.muli v65 c1_i32_43
  let v67 : BitVec 32 := Scalar.addi c0_i32_44 v66
  v67.toNat
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_45 : BitVec 32 := 7#32
  let v68 : BitVec 32 := Scalar.addi v2 c7_i32_45
  let c32_i32_46 : BitVec 32 := 32#32
  let v69 : BitVec 32 := Scalar.remsi v68 c32_i32_46
  let c1_i32_48 : BitVec 32 := 1#32
  let v70 : BitVec 32 := Scalar.muli v69 c1_i32_48
  let v71 : BitVec 32 := Scalar.addi c0_i32_49 v70
  v71.toNat
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v72 : BitVec 32 := Scalar.addi v2 c8_i32
  let c32_i32_50 : BitVec 32 := 32#32
  let v73 : BitVec 32 := Scalar.remsi v72 c32_i32_50
  let c1_i32_52 : BitVec 32 := 1#32
  let v74 : BitVec 32 := Scalar.muli v73 c1_i32_52
  let v75 : BitVec 32 := Scalar.addi c0_i32_53 v74
  v75.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v76 : BitVec 32 := Scalar.addi v2 c9_i32
  let c32_i32_54 : BitVec 32 := 32#32
  let v77 : BitVec 32 := Scalar.remsi v76 c32_i32_54
  let c1_i32_56 : BitVec 32 := 1#32
  let v78 : BitVec 32 := Scalar.muli v77 c1_i32_56
  let v79 : BitVec 32 := Scalar.addi c0_i32_57 v78
  v79.toNat
def k0_dev10 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v80 : BitVec 32 := Scalar.addi v2 c10_i32
  let c32_i32_58 : BitVec 32 := 32#32
  let v81 : BitVec 32 := Scalar.remsi v80 c32_i32_58
  let c1_i32_60 : BitVec 32 := 1#32
  let v82 : BitVec 32 := Scalar.muli v81 c1_i32_60
  let v83 : BitVec 32 := Scalar.addi c0_i32_61 v82
  v83.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v84 : BitVec 32 := Scalar.addi v2 c11_i32
  let c32_i32_62 : BitVec 32 := 32#32
  let v85 : BitVec 32 := Scalar.remsi v84 c32_i32_62
  let c1_i32_64 : BitVec 32 := 1#32
  let v86 : BitVec 32 := Scalar.muli v85 c1_i32_64
  let v87 : BitVec 32 := Scalar.addi c0_i32_65 v86
  v87.toNat
def k0_dev12 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v88 : BitVec 32 := Scalar.addi v2 c12_i32
  let c32_i32_66 : BitVec 32 := 32#32
  let v89 : BitVec 32 := Scalar.remsi v88 c32_i32_66
  let c1_i32_68 : BitVec 32 := 1#32
  let v90 : BitVec 32 := Scalar.muli v89 c1_i32_68
  let v91 : BitVec 32 := Scalar.addi c0_i32_69 v90
  v91.toNat
def k0_dev13 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v92 : BitVec 32 := Scalar.addi v2 c13_i32
  let c32_i32_70 : BitVec 32 := 32#32
  let v93 : BitVec 32 := Scalar.remsi v92 c32_i32_70
  let c1_i32_72 : BitVec 32 := 1#32
  let v94 : BitVec 32 := Scalar.muli v93 c1_i32_72
  let v95 : BitVec 32 := Scalar.addi c0_i32_73 v94
  v95.toNat
def k0_dev14 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v96 : BitVec 32 := Scalar.addi v2 c14_i32
  let c32_i32_74 : BitVec 32 := 32#32
  let v97 : BitVec 32 := Scalar.remsi v96 c32_i32_74
  let c1_i32_76 : BitVec 32 := 1#32
  let v98 : BitVec 32 := Scalar.muli v97 c1_i32_76
  let v99 : BitVec 32 := Scalar.addi c0_i32_77 v98
  v99.toNat
def k0_dev15 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v100 : BitVec 32 := Scalar.addi v2 c15_i32
  let c32_i32_78 : BitVec 32 := 32#32
  let v101 : BitVec 32 := Scalar.remsi v100 c32_i32_78
  let c1_i32_80 : BitVec 32 := 1#32
  let v102 : BitVec 32 := Scalar.muli v101 c1_i32_80
  let v103 : BitVec 32 := Scalar.addi c0_i32_81 v102
  v103.toNat
def k0_dev16 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v104 : BitVec 32 := Scalar.addi v2 c16_i32
  let c32_i32_82 : BitVec 32 := 32#32
  let v105 : BitVec 32 := Scalar.remsi v104 c32_i32_82
  let c1_i32_84 : BitVec 32 := 1#32
  let v106 : BitVec 32 := Scalar.muli v105 c1_i32_84
  let v107 : BitVec 32 := Scalar.addi c0_i32_85 v106
  v107.toNat
def k0_dev17 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v108 : BitVec 32 := Scalar.addi v2 c17_i32
  let c32_i32_86 : BitVec 32 := 32#32
  let v109 : BitVec 32 := Scalar.remsi v108 c32_i32_86
  let c1_i32_88 : BitVec 32 := 1#32
  let v110 : BitVec 32 := Scalar.muli v109 c1_i32_88
  let v111 : BitVec 32 := Scalar.addi c0_i32_89 v110
  v111.toNat
def k0_dev18 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v112 : BitVec 32 := Scalar.addi v2 c18_i32
  let c32_i32_90 : BitVec 32 := 32#32
  let v113 : BitVec 32 := Scalar.remsi v112 c32_i32_90
  let c1_i32_92 : BitVec 32 := 1#32
  let v114 : BitVec 32 := Scalar.muli v113 c1_i32_92
  let v115 : BitVec 32 := Scalar.addi c0_i32_93 v114
  v115.toNat
def k0_dev19 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v116 : BitVec 32 := Scalar.addi v2 c19_i32
  let c32_i32_94 : BitVec 32 := 32#32
  let v117 : BitVec 32 := Scalar.remsi v116 c32_i32_94
  let c1_i32_96 : BitVec 32 := 1#32
  let v118 : BitVec 32 := Scalar.muli v117 c1_i32_96
  let v119 : BitVec 32 := Scalar.addi c0_i32_97 v118
  v119.toNat
def k0_dev20 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v120 : BitVec 32 := Scalar.addi v2 c20_i32
  let c32_i32_98 : BitVec 32 := 32#32
  let v121 : BitVec 32 := Scalar.remsi v120 c32_i32_98
  let c1_i32_100 : BitVec 32 := 1#32
  let v122 : BitVec 32 := Scalar.muli v121 c1_i32_100
  let v123 : BitVec 32 := Scalar.addi c0_i32_101 v122
  v123.toNat
def k0_dev21 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v124 : BitVec 32 := Scalar.addi v2 c21_i32
  let c32_i32_102 : BitVec 32 := 32#32
  let v125 : BitVec 32 := Scalar.remsi v124 c32_i32_102
  let c1_i32_104 : BitVec 32 := 1#32
  let v126 : BitVec 32 := Scalar.muli v125 c1_i32_104
  let v127 : BitVec 32 := Scalar.addi c0_i32_105 v126
  v127.toNat
def k0_dev22 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v128 : BitVec 32 := Scalar.addi v2 c22_i32
  let c32_i32_106 : BitVec 32 := 32#32
  let v129 : BitVec 32 := Scalar.remsi v128 c32_i32_106
  let c1_i32_108 : BitVec 32 := 1#32
  let v130 : BitVec 32 := Scalar.muli v129 c1_i32_108
  let v131 : BitVec 32 := Scalar.addi c0_i32_109 v130
  v131.toNat
def k0_dev23 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v132 : BitVec 32 := Scalar.addi v2 c23_i32
  let c32_i32_110 : BitVec 32 := 32#32
  let v133 : BitVec 32 := Scalar.remsi v132 c32_i32_110
  let c1_i32_112 : BitVec 32 := 1#32
  let v134 : BitVec 32 := Scalar.muli v133 c1_i32_112
  let v135 : BitVec 32 := Scalar.addi c0_i32_113 v134
  v135.toNat
def k0_dev24 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v136 : BitVec 32 := Scalar.addi v2 c24_i32
  let c32_i32_114 : BitVec 32 := 32#32
  let v137 : BitVec 32 := Scalar.remsi v136 c32_i32_114
  let c1_i32_116 : BitVec 32 := 1#32
  let v138 : BitVec 32 := Scalar.muli v137 c1_i32_116
  let v139 : BitVec 32 := Scalar.addi c0_i32_117 v138
  v139.toNat
def k0_dev25 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v140 : BitVec 32 := Scalar.addi v2 c25_i32
  let c32_i32_118 : BitVec 32 := 32#32
  let v141 : BitVec 32 := Scalar.remsi v140 c32_i32_118
  let c1_i32_120 : BitVec 32 := 1#32
  let v142 : BitVec 32 := Scalar.muli v141 c1_i32_120
  let v143 : BitVec 32 := Scalar.addi c0_i32_121 v142
  v143.toNat
def k0_dev26 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v144 : BitVec 32 := Scalar.addi v2 c26_i32
  let c32_i32_122 : BitVec 32 := 32#32
  let v145 : BitVec 32 := Scalar.remsi v144 c32_i32_122
  let c1_i32_124 : BitVec 32 := 1#32
  let v146 : BitVec 32 := Scalar.muli v145 c1_i32_124
  let v147 : BitVec 32 := Scalar.addi c0_i32_125 v146
  v147.toNat
def k0_dev27 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v148 : BitVec 32 := Scalar.addi v2 c27_i32
  let c32_i32_126 : BitVec 32 := 32#32
  let v149 : BitVec 32 := Scalar.remsi v148 c32_i32_126
  let c1_i32_128 : BitVec 32 := 1#32
  let v150 : BitVec 32 := Scalar.muli v149 c1_i32_128
  let v151 : BitVec 32 := Scalar.addi c0_i32_129 v150
  v151.toNat
def k0_dev28 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v152 : BitVec 32 := Scalar.addi v2 c28_i32
  let c32_i32_130 : BitVec 32 := 32#32
  let v153 : BitVec 32 := Scalar.remsi v152 c32_i32_130
  let c1_i32_132 : BitVec 32 := 1#32
  let v154 : BitVec 32 := Scalar.muli v153 c1_i32_132
  let v155 : BitVec 32 := Scalar.addi c0_i32_133 v154
  v155.toNat
def k0_dev29 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v156 : BitVec 32 := Scalar.addi v2 c29_i32
  let c32_i32_134 : BitVec 32 := 32#32
  let v157 : BitVec 32 := Scalar.remsi v156 c32_i32_134
  let c1_i32_136 : BitVec 32 := 1#32
  let v158 : BitVec 32 := Scalar.muli v157 c1_i32_136
  let v159 : BitVec 32 := Scalar.addi c0_i32_137 v158
  v159.toNat
def k0_dev30 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v160 : BitVec 32 := Scalar.addi v2 c30_i32
  let c32_i32_138 : BitVec 32 := 32#32
  let v161 : BitVec 32 := Scalar.remsi v160 c32_i32_138
  let c1_i32_140 : BitVec 32 := 1#32
  let v162 : BitVec 32 := Scalar.muli v161 c1_i32_140
  let v163 : BitVec 32 := Scalar.addi c0_i32_141 v162
  v163.toNat
def k0_dev31 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v164 : BitVec 32 := Scalar.addi v2 c31_i32
  let c32_i32_142 : BitVec 32 := 32#32
  let v165 : BitVec 32 := Scalar.remsi v164 c32_i32_142
  let c1_i32_144 : BitVec 32 := 1#32
  let v166 : BitVec 32 := Scalar.muli v165 c1_i32_144
  let v167 : BitVec 32 := Scalar.addi c0_i32_145 v166
  v167.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v173 : BitVec 32 := Scalar.muli v2 c128_i32
  let v174 : Index := Scalar.indexCast v173
  let c0_151 : Index := 0#32
  ![v174.toNat, 0]
def k0_off3 (d0 : Dev nD) : Fin 2 → Nat :=
  let c0_153 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_152 : BitVec 32 := 128#32
  let v176 : BitVec 32 := Scalar.muli v2 c128_i32_152
  let v177 : Index := Scalar.indexCast v176
  ![0, v177.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_157 : BitVec 32 := 128#32
  let v184 : BitVec 32 := Scalar.muli v2 c128_i32_157
  ![0, v184.toNat]
def k0_off6 (d0 : Dev nD) (c1_i32_154 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v181 : BitVec 32 := Scalar.addi v2 c1_i32_154
  let c32_i32_155 : BitVec 32 := 32#32
  let v182 : BitVec 32 := Scalar.remsi v181 c32_i32_155
  let c128_i32_156 : BitVec 32 := 128#32
  let v183 : BitVec 32 := Scalar.muli v182 c128_i32_156
  let c0_i32_162 : BitVec 32 := 0#32
  ![v183.toNat, 0]
def k0_dev32 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_154 : BitVec 32 := 1#32
  let v181 : BitVec 32 := Scalar.addi v2 c1_i32_154
  let c32_i32_155 : BitVec 32 := 32#32
  let v182 : BitVec 32 := Scalar.remsi v181 c32_i32_155
  let c1_i32_159 : BitVec 32 := 1#32
  let v185 : BitVec 32 := Scalar.muli v182 c1_i32_159
  let v186 : BitVec 32 := Scalar.addi c0_i32_160 v185
  v186.toNat
def k0_dev33 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_163 : BitVec 32 := 2#32
  let v193 : BitVec 32 := Scalar.addi v2 c2_i32_163
  let c32_i32_164 : BitVec 32 := 32#32
  let v194 : BitVec 32 := Scalar.remsi v193 c32_i32_164
  let c1_i32_168 : BitVec 32 := 1#32
  let v197 : BitVec 32 := Scalar.muli v194 c1_i32_168
  let v198 : BitVec 32 := Scalar.addi c0_i32_169 v197
  v198.toNat
def k0_dev34 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_172 : BitVec 32 := 3#32
  let v205 : BitVec 32 := Scalar.addi v2 c3_i32_172
  let c32_i32_173 : BitVec 32 := 32#32
  let v206 : BitVec 32 := Scalar.remsi v205 c32_i32_173
  let c1_i32_177 : BitVec 32 := 1#32
  let v209 : BitVec 32 := Scalar.muli v206 c1_i32_177
  let v210 : BitVec 32 := Scalar.addi c0_i32_178 v209
  v210.toNat
def k0_dev35 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_181 : BitVec 32 := 4#32
  let v217 : BitVec 32 := Scalar.addi v2 c4_i32_181
  let c32_i32_182 : BitVec 32 := 32#32
  let v218 : BitVec 32 := Scalar.remsi v217 c32_i32_182
  let c1_i32_186 : BitVec 32 := 1#32
  let v221 : BitVec 32 := Scalar.muli v218 c1_i32_186
  let v222 : BitVec 32 := Scalar.addi c0_i32_187 v221
  v222.toNat
def k0_dev36 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_190 : BitVec 32 := 5#32
  let v229 : BitVec 32 := Scalar.addi v2 c5_i32_190
  let c32_i32_191 : BitVec 32 := 32#32
  let v230 : BitVec 32 := Scalar.remsi v229 c32_i32_191
  let c1_i32_195 : BitVec 32 := 1#32
  let v233 : BitVec 32 := Scalar.muli v230 c1_i32_195
  let v234 : BitVec 32 := Scalar.addi c0_i32_196 v233
  v234.toNat
def k0_dev37 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_199 : BitVec 32 := 6#32
  let v241 : BitVec 32 := Scalar.addi v2 c6_i32_199
  let c32_i32_200 : BitVec 32 := 32#32
  let v242 : BitVec 32 := Scalar.remsi v241 c32_i32_200
  let c1_i32_204 : BitVec 32 := 1#32
  let v245 : BitVec 32 := Scalar.muli v242 c1_i32_204
  let v246 : BitVec 32 := Scalar.addi c0_i32_205 v245
  v246.toNat
def k0_dev38 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_208 : BitVec 32 := 7#32
  let v253 : BitVec 32 := Scalar.addi v2 c7_i32_208
  let c32_i32_209 : BitVec 32 := 32#32
  let v254 : BitVec 32 := Scalar.remsi v253 c32_i32_209
  let c1_i32_213 : BitVec 32 := 1#32
  let v257 : BitVec 32 := Scalar.muli v254 c1_i32_213
  let v258 : BitVec 32 := Scalar.addi c0_i32_214 v257
  v258.toNat
def k0_dev39 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_217 : BitVec 32 := 8#32
  let v265 : BitVec 32 := Scalar.addi v2 c8_i32_217
  let c32_i32_218 : BitVec 32 := 32#32
  let v266 : BitVec 32 := Scalar.remsi v265 c32_i32_218
  let c1_i32_222 : BitVec 32 := 1#32
  let v269 : BitVec 32 := Scalar.muli v266 c1_i32_222
  let v270 : BitVec 32 := Scalar.addi c0_i32_223 v269
  v270.toNat
def k0_dev40 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_226 : BitVec 32 := 9#32
  let v277 : BitVec 32 := Scalar.addi v2 c9_i32_226
  let c32_i32_227 : BitVec 32 := 32#32
  let v278 : BitVec 32 := Scalar.remsi v277 c32_i32_227
  let c1_i32_231 : BitVec 32 := 1#32
  let v281 : BitVec 32 := Scalar.muli v278 c1_i32_231
  let v282 : BitVec 32 := Scalar.addi c0_i32_232 v281
  v282.toNat
def k0_dev41 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_235 : BitVec 32 := 10#32
  let v289 : BitVec 32 := Scalar.addi v2 c10_i32_235
  let c32_i32_236 : BitVec 32 := 32#32
  let v290 : BitVec 32 := Scalar.remsi v289 c32_i32_236
  let c1_i32_240 : BitVec 32 := 1#32
  let v293 : BitVec 32 := Scalar.muli v290 c1_i32_240
  let v294 : BitVec 32 := Scalar.addi c0_i32_241 v293
  v294.toNat
def k0_dev42 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_244 : BitVec 32 := 11#32
  let v301 : BitVec 32 := Scalar.addi v2 c11_i32_244
  let c32_i32_245 : BitVec 32 := 32#32
  let v302 : BitVec 32 := Scalar.remsi v301 c32_i32_245
  let c1_i32_249 : BitVec 32 := 1#32
  let v305 : BitVec 32 := Scalar.muli v302 c1_i32_249
  let v306 : BitVec 32 := Scalar.addi c0_i32_250 v305
  v306.toNat
def k0_dev43 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_253 : BitVec 32 := 12#32
  let v313 : BitVec 32 := Scalar.addi v2 c12_i32_253
  let c32_i32_254 : BitVec 32 := 32#32
  let v314 : BitVec 32 := Scalar.remsi v313 c32_i32_254
  let c1_i32_258 : BitVec 32 := 1#32
  let v317 : BitVec 32 := Scalar.muli v314 c1_i32_258
  let v318 : BitVec 32 := Scalar.addi c0_i32_259 v317
  v318.toNat
def k0_dev44 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_262 : BitVec 32 := 13#32
  let v325 : BitVec 32 := Scalar.addi v2 c13_i32_262
  let c32_i32_263 : BitVec 32 := 32#32
  let v326 : BitVec 32 := Scalar.remsi v325 c32_i32_263
  let c1_i32_267 : BitVec 32 := 1#32
  let v329 : BitVec 32 := Scalar.muli v326 c1_i32_267
  let v330 : BitVec 32 := Scalar.addi c0_i32_268 v329
  v330.toNat
def k0_dev45 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_271 : BitVec 32 := 14#32
  let v337 : BitVec 32 := Scalar.addi v2 c14_i32_271
  let c32_i32_272 : BitVec 32 := 32#32
  let v338 : BitVec 32 := Scalar.remsi v337 c32_i32_272
  let c1_i32_276 : BitVec 32 := 1#32
  let v341 : BitVec 32 := Scalar.muli v338 c1_i32_276
  let v342 : BitVec 32 := Scalar.addi c0_i32_277 v341
  v342.toNat
def k0_dev46 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_280 : BitVec 32 := 15#32
  let v349 : BitVec 32 := Scalar.addi v2 c15_i32_280
  let c32_i32_281 : BitVec 32 := 32#32
  let v350 : BitVec 32 := Scalar.remsi v349 c32_i32_281
  let c1_i32_285 : BitVec 32 := 1#32
  let v353 : BitVec 32 := Scalar.muli v350 c1_i32_285
  let v354 : BitVec 32 := Scalar.addi c0_i32_286 v353
  v354.toNat
def k0_dev47 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_289 : BitVec 32 := 16#32
  let v361 : BitVec 32 := Scalar.addi v2 c16_i32_289
  let c32_i32_290 : BitVec 32 := 32#32
  let v362 : BitVec 32 := Scalar.remsi v361 c32_i32_290
  let c1_i32_294 : BitVec 32 := 1#32
  let v365 : BitVec 32 := Scalar.muli v362 c1_i32_294
  let v366 : BitVec 32 := Scalar.addi c0_i32_295 v365
  v366.toNat
def k0_dev48 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_298 : BitVec 32 := 17#32
  let v373 : BitVec 32 := Scalar.addi v2 c17_i32_298
  let c32_i32_299 : BitVec 32 := 32#32
  let v374 : BitVec 32 := Scalar.remsi v373 c32_i32_299
  let c1_i32_303 : BitVec 32 := 1#32
  let v377 : BitVec 32 := Scalar.muli v374 c1_i32_303
  let v378 : BitVec 32 := Scalar.addi c0_i32_304 v377
  v378.toNat
def k0_dev49 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_307 : BitVec 32 := 18#32
  let v385 : BitVec 32 := Scalar.addi v2 c18_i32_307
  let c32_i32_308 : BitVec 32 := 32#32
  let v386 : BitVec 32 := Scalar.remsi v385 c32_i32_308
  let c1_i32_312 : BitVec 32 := 1#32
  let v389 : BitVec 32 := Scalar.muli v386 c1_i32_312
  let v390 : BitVec 32 := Scalar.addi c0_i32_313 v389
  v390.toNat
def k0_dev50 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_316 : BitVec 32 := 19#32
  let v397 : BitVec 32 := Scalar.addi v2 c19_i32_316
  let c32_i32_317 : BitVec 32 := 32#32
  let v398 : BitVec 32 := Scalar.remsi v397 c32_i32_317
  let c1_i32_321 : BitVec 32 := 1#32
  let v401 : BitVec 32 := Scalar.muli v398 c1_i32_321
  let v402 : BitVec 32 := Scalar.addi c0_i32_322 v401
  v402.toNat
def k0_dev51 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_325 : BitVec 32 := 20#32
  let v409 : BitVec 32 := Scalar.addi v2 c20_i32_325
  let c32_i32_326 : BitVec 32 := 32#32
  let v410 : BitVec 32 := Scalar.remsi v409 c32_i32_326
  let c1_i32_330 : BitVec 32 := 1#32
  let v413 : BitVec 32 := Scalar.muli v410 c1_i32_330
  let v414 : BitVec 32 := Scalar.addi c0_i32_331 v413
  v414.toNat
def k0_dev52 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_334 : BitVec 32 := 21#32
  let v421 : BitVec 32 := Scalar.addi v2 c21_i32_334
  let c32_i32_335 : BitVec 32 := 32#32
  let v422 : BitVec 32 := Scalar.remsi v421 c32_i32_335
  let c1_i32_339 : BitVec 32 := 1#32
  let v425 : BitVec 32 := Scalar.muli v422 c1_i32_339
  let v426 : BitVec 32 := Scalar.addi c0_i32_340 v425
  v426.toNat
def k0_dev53 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_343 : BitVec 32 := 22#32
  let v433 : BitVec 32 := Scalar.addi v2 c22_i32_343
  let c32_i32_344 : BitVec 32 := 32#32
  let v434 : BitVec 32 := Scalar.remsi v433 c32_i32_344
  let c1_i32_348 : BitVec 32 := 1#32
  let v437 : BitVec 32 := Scalar.muli v434 c1_i32_348
  let v438 : BitVec 32 := Scalar.addi c0_i32_349 v437
  v438.toNat
def k0_dev54 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_352 : BitVec 32 := 23#32
  let v445 : BitVec 32 := Scalar.addi v2 c23_i32_352
  let c32_i32_353 : BitVec 32 := 32#32
  let v446 : BitVec 32 := Scalar.remsi v445 c32_i32_353
  let c1_i32_357 : BitVec 32 := 1#32
  let v449 : BitVec 32 := Scalar.muli v446 c1_i32_357
  let v450 : BitVec 32 := Scalar.addi c0_i32_358 v449
  v450.toNat
def k0_dev55 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_361 : BitVec 32 := 24#32
  let v457 : BitVec 32 := Scalar.addi v2 c24_i32_361
  let c32_i32_362 : BitVec 32 := 32#32
  let v458 : BitVec 32 := Scalar.remsi v457 c32_i32_362
  let c1_i32_366 : BitVec 32 := 1#32
  let v461 : BitVec 32 := Scalar.muli v458 c1_i32_366
  let v462 : BitVec 32 := Scalar.addi c0_i32_367 v461
  v462.toNat
def k0_dev56 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_370 : BitVec 32 := 25#32
  let v469 : BitVec 32 := Scalar.addi v2 c25_i32_370
  let c32_i32_371 : BitVec 32 := 32#32
  let v470 : BitVec 32 := Scalar.remsi v469 c32_i32_371
  let c1_i32_375 : BitVec 32 := 1#32
  let v473 : BitVec 32 := Scalar.muli v470 c1_i32_375
  let v474 : BitVec 32 := Scalar.addi c0_i32_376 v473
  v474.toNat
def k0_dev57 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_379 : BitVec 32 := 26#32
  let v481 : BitVec 32 := Scalar.addi v2 c26_i32_379
  let c32_i32_380 : BitVec 32 := 32#32
  let v482 : BitVec 32 := Scalar.remsi v481 c32_i32_380
  let c1_i32_384 : BitVec 32 := 1#32
  let v485 : BitVec 32 := Scalar.muli v482 c1_i32_384
  let v486 : BitVec 32 := Scalar.addi c0_i32_385 v485
  v486.toNat
def k0_dev58 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_388 : BitVec 32 := 27#32
  let v493 : BitVec 32 := Scalar.addi v2 c27_i32_388
  let c32_i32_389 : BitVec 32 := 32#32
  let v494 : BitVec 32 := Scalar.remsi v493 c32_i32_389
  let c1_i32_393 : BitVec 32 := 1#32
  let v497 : BitVec 32 := Scalar.muli v494 c1_i32_393
  let v498 : BitVec 32 := Scalar.addi c0_i32_394 v497
  v498.toNat
def k0_dev59 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_397 : BitVec 32 := 28#32
  let v505 : BitVec 32 := Scalar.addi v2 c28_i32_397
  let c32_i32_398 : BitVec 32 := 32#32
  let v506 : BitVec 32 := Scalar.remsi v505 c32_i32_398
  let c1_i32_402 : BitVec 32 := 1#32
  let v509 : BitVec 32 := Scalar.muli v506 c1_i32_402
  let v510 : BitVec 32 := Scalar.addi c0_i32_403 v509
  v510.toNat
def k0_dev60 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_406 : BitVec 32 := 29#32
  let v517 : BitVec 32 := Scalar.addi v2 c29_i32_406
  let c32_i32_407 : BitVec 32 := 32#32
  let v518 : BitVec 32 := Scalar.remsi v517 c32_i32_407
  let c1_i32_411 : BitVec 32 := 1#32
  let v521 : BitVec 32 := Scalar.muli v518 c1_i32_411
  let v522 : BitVec 32 := Scalar.addi c0_i32_412 v521
  v522.toNat
def k0_dev61 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_415 : BitVec 32 := 30#32
  let v529 : BitVec 32 := Scalar.addi v2 c30_i32_415
  let c32_i32_416 : BitVec 32 := 32#32
  let v530 : BitVec 32 := Scalar.remsi v529 c32_i32_416
  let c1_i32_420 : BitVec 32 := 1#32
  let v533 : BitVec 32 := Scalar.muli v530 c1_i32_420
  let v534 : BitVec 32 := Scalar.addi c0_i32_421 v533
  v534.toNat
def k0_dev62 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_424 : BitVec 32 := 31#32
  let v541 : BitVec 32 := Scalar.addi v2 c31_i32_424
  let c32_i32_425 : BitVec 32 := 32#32
  let v542 : BitVec 32 := Scalar.remsi v541 c32_i32_425
  let c1_i32_429 : BitVec 32 := 1#32
  let v545 : BitVec 32 := Scalar.muli v542 c1_i32_429
  let v546 : BitVec 32 := Scalar.addi c0_i32_430 v545
  v546.toNat
def k0_off7 (i : grid0.Coords) : Fin 1 → Nat :=
  let arg0 : BitVec 32 := BitVec.ofNat 32 (i 0).val
  let v6 : Index := Scalar.indexCast arg0
  ![v6.toNat]
def k0_off8 (v7 : BitVec 32) : Fin 1 → Nat :=
  let c4_i32 : BitVec 32 := 4#32
  let v8 : BitVec 32 := Scalar.muli v7 c4_i32
  let c0_i32_1 : BitVec 32 := 0#32
  let v9 : BitVec 32 := Scalar.addi v8 c0_i32_1
  ![v9.toNat]
def k0_cond2 (d0 : Dev nD) (v7 : BitVec 32) : BitVec 1 :=
  let c4_i32 : BitVec 32 := 4#32
  let v8 : BitVec 32 := Scalar.muli v7 c4_i32
  let c0_i32_1 : BitVec 32 := 0#32
  let v9 : BitVec 32 := Scalar.addi v8 c0_i32_1
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v10 : BitVec 1 := Scalar.cmpi .ne v9 v2
  let v11 : BitVec 32 := Scalar.extui v10
  let c0_i32_2 : BitVec 32 := 0#32
  let v12 : BitVec 1 := Scalar.cmpi .ne v11 c0_i32_2
  v12

def k0_off9 (v7 : BitVec 32) : Fin 2 → Nat :=
  let c0_i32_20 : BitVec 32 := 0#32
  let c4_i32 : BitVec 32 := 4#32
  let v8 : BitVec 32 := Scalar.muli v7 c4_i32
  let c0_i32_1 : BitVec 32 := 0#32
  let v9 : BitVec 32 := Scalar.addi v8 c0_i32_1
  let c128_i32 : BitVec 32 := 128#32
  let v43 : BitVec 32 := Scalar.muli v9 c128_i32
  ![0, v43.toNat]
def k0_off10 (v7 : BitVec 32) : Fin 1 → Nat :=
  let c4_i32_3 : BitVec 32 := 4#32
  let v13 : BitVec 32 := Scalar.muli v7 c4_i32_3
  let c1_i32_4 : BitVec 32 := 1#32
  let v14 : BitVec 32 := Scalar.addi v13 c1_i32_4
  ![v14.toNat]
def k0_cond3 (d0 : Dev nD) (v7 : BitVec 32) : BitVec 1 :=
  let c4_i32_3 : BitVec 32 := 4#32
  let v13 : BitVec 32 := Scalar.muli v7 c4_i32_3
  let c1_i32_4 : BitVec 32 := 1#32
  let v14 : BitVec 32 := Scalar.addi v13 c1_i32_4
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15 : BitVec 1 := Scalar.cmpi .ne v14 v2
  let v16 : BitVec 32 := Scalar.extui v15
  let c0_i32_5 : BitVec 32 := 0#32
  let v17 : BitVec 1 := Scalar.cmpi .ne v16 c0_i32_5
  v17

def k0_off11 (v7 : BitVec 32) : Fin 2 → Nat :=
  let c0_i32_20 : BitVec 32 := 0#32
  let c4_i32_3 : BitVec 32 := 4#32
  let v13 : BitVec 32 := Scalar.muli v7 c4_i32_3
  let c1_i32_4 : BitVec 32 := 1#32
  let v14 : BitVec 32 := Scalar.addi v13 c1_i32_4
  let c128_i32 : BitVec 32 := 128#32
  let v43 : BitVec 32 := Scalar.muli v14 c128_i32
  ![0, v43.toNat]
def k0_off12 (v7 : BitVec 32) : Fin 1 → Nat :=
  let c4_i32_6 : BitVec 32 := 4#32
  let v18 : BitVec 32 := Scalar.muli v7 c4_i32_6
  let c2_i32 : BitVec 32 := 2#32
  let v19 : BitVec 32 := Scalar.addi v18 c2_i32
  ![v19.toNat]
def k0_cond4 (d0 : Dev nD) (v7 : BitVec 32) : BitVec 1 :=
  let c4_i32_6 : BitVec 32 := 4#32
  let v18 : BitVec 32 := Scalar.muli v7 c4_i32_6
  let c2_i32 : BitVec 32 := 2#32
  let v19 : BitVec 32 := Scalar.addi v18 c2_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v20 : BitVec 1 := Scalar.cmpi .ne v19 v2
  let v21 : BitVec 32 := Scalar.extui v20
  let c0_i32_7 : BitVec 32 := 0#32
  let v22 : BitVec 1 := Scalar.cmpi .ne v21 c0_i32_7
  v22

def k0_off13 (v7 : BitVec 32) : Fin 2 → Nat :=
  let c0_i32_20 : BitVec 32 := 0#32
  let c4_i32_6 : BitVec 32 := 4#32
  let v18 : BitVec 32 := Scalar.muli v7 c4_i32_6
  let c2_i32 : BitVec 32 := 2#32
  let v19 : BitVec 32 := Scalar.addi v18 c2_i32
  let c128_i32 : BitVec 32 := 128#32
  let v43 : BitVec 32 := Scalar.muli v19 c128_i32
  ![0, v43.toNat]
def k0_off14 (v7 : BitVec 32) : Fin 1 → Nat :=
  let c4_i32_8 : BitVec 32 := 4#32
  let v23 : BitVec 32 := Scalar.muli v7 c4_i32_8
  let c3_i32 : BitVec 32 := 3#32
  let v24 : BitVec 32 := Scalar.addi v23 c3_i32
  ![v24.toNat]
def k0_cond5 (d0 : Dev nD) (v7 : BitVec 32) : BitVec 1 :=
  let c4_i32_8 : BitVec 32 := 4#32
  let v23 : BitVec 32 := Scalar.muli v7 c4_i32_8
  let c3_i32 : BitVec 32 := 3#32
  let v24 : BitVec 32 := Scalar.addi v23 c3_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v25 : BitVec 1 := Scalar.cmpi .ne v24 v2
  let v26 : BitVec 32 := Scalar.extui v25
  let c0_i32_9 : BitVec 32 := 0#32
  let v27 : BitVec 1 := Scalar.cmpi .ne v26 c0_i32_9
  v27

def k0_off15 (v7 : BitVec 32) : Fin 2 → Nat :=
  let c0_i32_20 : BitVec 32 := 0#32
  let c4_i32_8 : BitVec 32 := 4#32
  let v23 : BitVec 32 := Scalar.muli v7 c4_i32_8
  let c3_i32 : BitVec 32 := 3#32
  let v24 : BitVec 32 := Scalar.addi v23 c3_i32
  let c128_i32 : BitVec 32 := 128#32
  let v43 : BitVec 32 := Scalar.muli v24 c128_i32
  ![0, v43.toNat]
def k0_off16 (v7 : BitVec 32) : Fin 2 → Nat :=
  let c0 : Index := 0#32
  let c512_i32 : BitVec 32 := 512#32
  let v28 : BitVec 32 := Scalar.muli v7 c512_i32
  let v29 : Index := Scalar.indexCast v28
  ![0, v29.toNat]

def k0_chk1 (d0 : Dev nD) (v7 : BitVec 32) : Prop :=
  (∀ (k0_h2 : k0_cond2 d0 v7 = 1#1), ∀ a, (k0_off8 v7) a + S1.size a ≤ S32.size a) ∧
  (∀ (k0_h2 : k0_cond2 d0 v7 = 1#1), ∀ a, (k0_off9 v7) a + S128x128.size a ≤ S128x4096.size a) ∧
  (∀ (k0_h2 : k0_cond2 d0 v7 = 1#1), ∀ (hinb : ∀ a, (k0_off9 v7) a + S128x128.size a ≤ S128x4096.size a), (Rect.unit (s := S128x4096) (k0_off9 v7) S128x128.size hinb).WholeWords (EltTy.packing .bf16)) ∧
  (∀ (k0_h3 : k0_cond3 d0 v7 = 1#1), ∀ a, (k0_off10 v7) a + S1.size a ≤ S32.size a) ∧
  (∀ (k0_h3 : k0_cond3 d0 v7 = 1#1), ∀ a, (k0_off11 v7) a + S128x128.size a ≤ S128x4096.size a) ∧
  (∀ (k0_h3 : k0_cond3 d0 v7 = 1#1), ∀ (hinb : ∀ a, (k0_off11 v7) a + S128x128.size a ≤ S128x4096.size a), (Rect.unit (s := S128x4096) (k0_off11 v7) S128x128.size hinb).WholeWords (EltTy.packing .bf16)) ∧
  (∀ (k0_h4 : k0_cond4 d0 v7 = 1#1), ∀ a, (k0_off12 v7) a + S1.size a ≤ S32.size a) ∧
  (∀ (k0_h4 : k0_cond4 d0 v7 = 1#1), ∀ a, (k0_off13 v7) a + S128x128.size a ≤ S128x4096.size a) ∧
  (∀ (k0_h4 : k0_cond4 d0 v7 = 1#1), ∀ (hinb : ∀ a, (k0_off13 v7) a + S128x128.size a ≤ S128x4096.size a), (Rect.unit (s := S128x4096) (k0_off13 v7) S128x128.size hinb).WholeWords (EltTy.packing .bf16)) ∧
  (∀ (k0_h5 : k0_cond5 d0 v7 = 1#1), ∀ a, (k0_off14 v7) a + S1.size a ≤ S32.size a) ∧
  (∀ (k0_h5 : k0_cond5 d0 v7 = 1#1), ∀ a, (k0_off15 v7) a + S128x128.size a ≤ S128x4096.size a) ∧
  (∀ (k0_h5 : k0_cond5 d0 v7 = 1#1), ∀ (hinb : ∀ a, (k0_off15 v7) a + S128x128.size a ≤ S128x4096.size a), (Rect.unit (s := S128x4096) (k0_off15 v7) S128x128.size hinb).WholeWords (EltTy.packing .bf16)) ∧
  (∀ a, (k0_off16 v7) a + S128x512.size a ≤ S128x4096.size a)
theorem k0_off8_inb : ∀ (d0 : Dev nD) (v7 : BitVec 32) (k0_hw1 : k0_chk1 d0 v7), ∀ (k0_h2 : k0_cond2 d0 v7 = 1#1), ∀ a, (k0_off8 v7) a + S1.size a ≤ S32.size a := fun d0 v7 k0_hw1 k0_h2 => k0_hw1.1 k0_h2
theorem k0_off9_inb : ∀ (d0 : Dev nD) (v7 : BitVec 32) (k0_hw1 : k0_chk1 d0 v7), ∀ (k0_h2 : k0_cond2 d0 v7 = 1#1), ∀ a, (k0_off9 v7) a + S128x128.size a ≤ S128x4096.size a := fun d0 v7 k0_hw1 k0_h2 => k0_hw1.2.1 k0_h2
theorem k0_off9_wordsbf16 : ∀ (d0 : Dev nD) (v7 : BitVec 32) (k0_hw1 : k0_chk1 d0 v7), ∀ (k0_h2 : k0_cond2 d0 v7 = 1#1), (Rect.unit (s := S128x4096) (k0_off9 v7) S128x128.size (k0_off9_inb d0 v7 k0_hw1 k0_h2)).WholeWords (EltTy.packing .bf16) := fun d0 v7 k0_hw1 k0_h2 => k0_hw1.2.2.1 k0_h2 (k0_off9_inb d0 v7 k0_hw1 k0_h2)
theorem k0_off10_inb : ∀ (d0 : Dev nD) (v7 : BitVec 32) (k0_hw1 : k0_chk1 d0 v7), ∀ (k0_h3 : k0_cond3 d0 v7 = 1#1), ∀ a, (k0_off10 v7) a + S1.size a ≤ S32.size a := fun d0 v7 k0_hw1 k0_h3 => k0_hw1.2.2.2.1 k0_h3
theorem k0_off11_inb : ∀ (d0 : Dev nD) (v7 : BitVec 32) (k0_hw1 : k0_chk1 d0 v7), ∀ (k0_h3 : k0_cond3 d0 v7 = 1#1), ∀ a, (k0_off11 v7) a + S128x128.size a ≤ S128x4096.size a := fun d0 v7 k0_hw1 k0_h3 => k0_hw1.2.2.2.2.1 k0_h3
theorem k0_off11_wordsbf16 : ∀ (d0 : Dev nD) (v7 : BitVec 32) (k0_hw1 : k0_chk1 d0 v7), ∀ (k0_h3 : k0_cond3 d0 v7 = 1#1), (Rect.unit (s := S128x4096) (k0_off11 v7) S128x128.size (k0_off11_inb d0 v7 k0_hw1 k0_h3)).WholeWords (EltTy.packing .bf16) := fun d0 v7 k0_hw1 k0_h3 => k0_hw1.2.2.2.2.2.1 k0_h3 (k0_off11_inb d0 v7 k0_hw1 k0_h3)
theorem k0_off12_inb : ∀ (d0 : Dev nD) (v7 : BitVec 32) (k0_hw1 : k0_chk1 d0 v7), ∀ (k0_h4 : k0_cond4 d0 v7 = 1#1), ∀ a, (k0_off12 v7) a + S1.size a ≤ S32.size a := fun d0 v7 k0_hw1 k0_h4 => k0_hw1.2.2.2.2.2.2.1 k0_h4
theorem k0_off13_inb : ∀ (d0 : Dev nD) (v7 : BitVec 32) (k0_hw1 : k0_chk1 d0 v7), ∀ (k0_h4 : k0_cond4 d0 v7 = 1#1), ∀ a, (k0_off13 v7) a + S128x128.size a ≤ S128x4096.size a := fun d0 v7 k0_hw1 k0_h4 => k0_hw1.2.2.2.2.2.2.2.1 k0_h4
theorem k0_off13_wordsbf16 : ∀ (d0 : Dev nD) (v7 : BitVec 32) (k0_hw1 : k0_chk1 d0 v7), ∀ (k0_h4 : k0_cond4 d0 v7 = 1#1), (Rect.unit (s := S128x4096) (k0_off13 v7) S128x128.size (k0_off13_inb d0 v7 k0_hw1 k0_h4)).WholeWords (EltTy.packing .bf16) := fun d0 v7 k0_hw1 k0_h4 => k0_hw1.2.2.2.2.2.2.2.2.1 k0_h4 (k0_off13_inb d0 v7 k0_hw1 k0_h4)
theorem k0_off14_inb : ∀ (d0 : Dev nD) (v7 : BitVec 32) (k0_hw1 : k0_chk1 d0 v7), ∀ (k0_h5 : k0_cond5 d0 v7 = 1#1), ∀ a, (k0_off14 v7) a + S1.size a ≤ S32.size a := fun d0 v7 k0_hw1 k0_h5 => k0_hw1.2.2.2.2.2.2.2.2.2.1 k0_h5
theorem k0_off15_inb : ∀ (d0 : Dev nD) (v7 : BitVec 32) (k0_hw1 : k0_chk1 d0 v7), ∀ (k0_h5 : k0_cond5 d0 v7 = 1#1), ∀ a, (k0_off15 v7) a + S128x128.size a ≤ S128x4096.size a := fun d0 v7 k0_hw1 k0_h5 => k0_hw1.2.2.2.2.2.2.2.2.2.2.1 k0_h5
theorem k0_off15_wordsbf16 : ∀ (d0 : Dev nD) (v7 : BitVec 32) (k0_hw1 : k0_chk1 d0 v7), ∀ (k0_h5 : k0_cond5 d0 v7 = 1#1), (Rect.unit (s := S128x4096) (k0_off15 v7) S128x128.size (k0_off15_inb d0 v7 k0_hw1 k0_h5)).WholeWords (EltTy.packing .bf16) := fun d0 v7 k0_hw1 k0_h5 => k0_hw1.2.2.2.2.2.2.2.2.2.2.2.1 k0_h5 (k0_off15_inb d0 v7 k0_hw1 k0_h5)
theorem k0_off16_inb : ∀ (d0 : Dev nD) (v7 : BitVec 32) (k0_hw1 : k0_chk1 d0 v7), ∀ a, (k0_off16 v7) a + S128x512.size a ≤ S128x4096.size a := fun d0 v7 k0_hw1 => k0_hw1.2.2.2.2.2.2.2.2.2.2.2.2

def k0_cond8 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_16 : BitVec 32 := 0#32
  let v42 : BitVec 1 := Scalar.cmpi .ne v41 c0_i32_16
  v42

def k0_off17 (d0 : Dev nD) (c1_i32_17 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v43 : BitVec 32 := Scalar.addi v2 c1_i32_17
  let c32_i32_18 : BitVec 32 := 32#32
  let v44 : BitVec 32 := Scalar.remsi v43 c32_i32_18
  let c128_i32 : BitVec 32 := 128#32
  let v45 : BitVec 32 := Scalar.muli v44 c128_i32
  let c0_i32_22 : BitVec 32 := 0#32
  ![v45.toNat, 0]
def k0_off18 (d0 : Dev nD) : Fin 2 → Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_19 : BitVec 32 := 128#32
  let v46 : BitVec 32 := Scalar.muli v2 c128_i32_19
  ![0, v46.toNat]
def k0_dev63 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_245 : BitVec 32 := 1#32
  let v303 : BitVec 32 := Scalar.addi v2 c1_i32_245
  let c32_i32_246 : BitVec 32 := 32#32
  let v304 : BitVec 32 := Scalar.remsi v303 c32_i32_246
  let c1_i32_251 : BitVec 32 := 1#32
  let v305 : BitVec 32 := Scalar.muli v304 c1_i32_251
  let v306 : BitVec 32 := Scalar.addi c0_i32_252 v305
  v306.toNat
def k0_dev64 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_257 : BitVec 32 := 2#32
  let v315 : BitVec 32 := Scalar.addi v2 c2_i32_257
  let c32_i32_258 : BitVec 32 := 32#32
  let v316 : BitVec 32 := Scalar.remsi v315 c32_i32_258
  let c1_i32_263 : BitVec 32 := 1#32
  let v317 : BitVec 32 := Scalar.muli v316 c1_i32_263
  let v318 : BitVec 32 := Scalar.addi c0_i32_264 v317
  v318.toNat
def k0_dev65 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_269 : BitVec 32 := 3#32
  let v327 : BitVec 32 := Scalar.addi v2 c3_i32_269
  let c32_i32_270 : BitVec 32 := 32#32
  let v328 : BitVec 32 := Scalar.remsi v327 c32_i32_270
  let c1_i32_275 : BitVec 32 := 1#32
  let v329 : BitVec 32 := Scalar.muli v328 c1_i32_275
  let v330 : BitVec 32 := Scalar.addi c0_i32_276 v329
  v330.toNat
def k0_dev66 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_281 : BitVec 32 := 4#32
  let v339 : BitVec 32 := Scalar.addi v2 c4_i32_281
  let c32_i32_282 : BitVec 32 := 32#32
  let v340 : BitVec 32 := Scalar.remsi v339 c32_i32_282
  let c1_i32_287 : BitVec 32 := 1#32
  let v341 : BitVec 32 := Scalar.muli v340 c1_i32_287
  let v342 : BitVec 32 := Scalar.addi c0_i32_288 v341
  v342.toNat
def k0_dev67 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_293 : BitVec 32 := 5#32
  let v351 : BitVec 32 := Scalar.addi v2 c5_i32_293
  let c32_i32_294 : BitVec 32 := 32#32
  let v352 : BitVec 32 := Scalar.remsi v351 c32_i32_294
  let c1_i32_299 : BitVec 32 := 1#32
  let v353 : BitVec 32 := Scalar.muli v352 c1_i32_299
  let v354 : BitVec 32 := Scalar.addi c0_i32_300 v353
  v354.toNat
def k0_dev68 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_305 : BitVec 32 := 6#32
  let v363 : BitVec 32 := Scalar.addi v2 c6_i32_305
  let c32_i32_306 : BitVec 32 := 32#32
  let v364 : BitVec 32 := Scalar.remsi v363 c32_i32_306
  let c1_i32_311 : BitVec 32 := 1#32
  let v365 : BitVec 32 := Scalar.muli v364 c1_i32_311
  let v366 : BitVec 32 := Scalar.addi c0_i32_312 v365
  v366.toNat
def k0_dev69 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_317 : BitVec 32 := 7#32
  let v375 : BitVec 32 := Scalar.addi v2 c7_i32_317
  let c32_i32_318 : BitVec 32 := 32#32
  let v376 : BitVec 32 := Scalar.remsi v375 c32_i32_318
  let c1_i32_323 : BitVec 32 := 1#32
  let v377 : BitVec 32 := Scalar.muli v376 c1_i32_323
  let v378 : BitVec 32 := Scalar.addi c0_i32_324 v377
  v378.toNat
def k0_dev70 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_329 : BitVec 32 := 8#32
  let v387 : BitVec 32 := Scalar.addi v2 c8_i32_329
  let c32_i32_330 : BitVec 32 := 32#32
  let v388 : BitVec 32 := Scalar.remsi v387 c32_i32_330
  let c1_i32_335 : BitVec 32 := 1#32
  let v389 : BitVec 32 := Scalar.muli v388 c1_i32_335
  let v390 : BitVec 32 := Scalar.addi c0_i32_336 v389
  v390.toNat
def k0_dev71 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_341 : BitVec 32 := 9#32
  let v399 : BitVec 32 := Scalar.addi v2 c9_i32_341
  let c32_i32_342 : BitVec 32 := 32#32
  let v400 : BitVec 32 := Scalar.remsi v399 c32_i32_342
  let c1_i32_347 : BitVec 32 := 1#32
  let v401 : BitVec 32 := Scalar.muli v400 c1_i32_347
  let v402 : BitVec 32 := Scalar.addi c0_i32_348 v401
  v402.toNat
def k0_dev72 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_353 : BitVec 32 := 10#32
  let v411 : BitVec 32 := Scalar.addi v2 c10_i32_353
  let c32_i32_354 : BitVec 32 := 32#32
  let v412 : BitVec 32 := Scalar.remsi v411 c32_i32_354
  let c1_i32_359 : BitVec 32 := 1#32
  let v413 : BitVec 32 := Scalar.muli v412 c1_i32_359
  let v414 : BitVec 32 := Scalar.addi c0_i32_360 v413
  v414.toNat
def k0_dev73 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_365 : BitVec 32 := 11#32
  let v423 : BitVec 32 := Scalar.addi v2 c11_i32_365
  let c32_i32_366 : BitVec 32 := 32#32
  let v424 : BitVec 32 := Scalar.remsi v423 c32_i32_366
  let c1_i32_371 : BitVec 32 := 1#32
  let v425 : BitVec 32 := Scalar.muli v424 c1_i32_371
  let v426 : BitVec 32 := Scalar.addi c0_i32_372 v425
  v426.toNat
def k0_dev74 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_377 : BitVec 32 := 12#32
  let v435 : BitVec 32 := Scalar.addi v2 c12_i32_377
  let c32_i32_378 : BitVec 32 := 32#32
  let v436 : BitVec 32 := Scalar.remsi v435 c32_i32_378
  let c1_i32_383 : BitVec 32 := 1#32
  let v437 : BitVec 32 := Scalar.muli v436 c1_i32_383
  let v438 : BitVec 32 := Scalar.addi c0_i32_384 v437
  v438.toNat
def k0_dev75 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_389 : BitVec 32 := 13#32
  let v447 : BitVec 32 := Scalar.addi v2 c13_i32_389
  let c32_i32_390 : BitVec 32 := 32#32
  let v448 : BitVec 32 := Scalar.remsi v447 c32_i32_390
  let c1_i32_395 : BitVec 32 := 1#32
  let v449 : BitVec 32 := Scalar.muli v448 c1_i32_395
  let v450 : BitVec 32 := Scalar.addi c0_i32_396 v449
  v450.toNat
def k0_dev76 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_401 : BitVec 32 := 14#32
  let v459 : BitVec 32 := Scalar.addi v2 c14_i32_401
  let c32_i32_402 : BitVec 32 := 32#32
  let v460 : BitVec 32 := Scalar.remsi v459 c32_i32_402
  let c1_i32_407 : BitVec 32 := 1#32
  let v461 : BitVec 32 := Scalar.muli v460 c1_i32_407
  let v462 : BitVec 32 := Scalar.addi c0_i32_408 v461
  v462.toNat
def k0_dev77 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_413 : BitVec 32 := 15#32
  let v471 : BitVec 32 := Scalar.addi v2 c15_i32_413
  let c32_i32_414 : BitVec 32 := 32#32
  let v472 : BitVec 32 := Scalar.remsi v471 c32_i32_414
  let c1_i32_419 : BitVec 32 := 1#32
  let v473 : BitVec 32 := Scalar.muli v472 c1_i32_419
  let v474 : BitVec 32 := Scalar.addi c0_i32_420 v473
  v474.toNat
def k0_dev78 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_425 : BitVec 32 := 16#32
  let v483 : BitVec 32 := Scalar.addi v2 c16_i32_425
  let c32_i32_426 : BitVec 32 := 32#32
  let v484 : BitVec 32 := Scalar.remsi v483 c32_i32_426
  let c1_i32_431 : BitVec 32 := 1#32
  let v485 : BitVec 32 := Scalar.muli v484 c1_i32_431
  let v486 : BitVec 32 := Scalar.addi c0_i32_432 v485
  v486.toNat
def k0_dev79 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_437 : BitVec 32 := 17#32
  let v495 : BitVec 32 := Scalar.addi v2 c17_i32_437
  let c32_i32_438 : BitVec 32 := 32#32
  let v496 : BitVec 32 := Scalar.remsi v495 c32_i32_438
  let c1_i32_443 : BitVec 32 := 1#32
  let v497 : BitVec 32 := Scalar.muli v496 c1_i32_443
  let v498 : BitVec 32 := Scalar.addi c0_i32_444 v497
  v498.toNat
def k0_dev80 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_449 : BitVec 32 := 18#32
  let v507 : BitVec 32 := Scalar.addi v2 c18_i32_449
  let c32_i32_450 : BitVec 32 := 32#32
  let v508 : BitVec 32 := Scalar.remsi v507 c32_i32_450
  let c1_i32_455 : BitVec 32 := 1#32
  let v509 : BitVec 32 := Scalar.muli v508 c1_i32_455
  let v510 : BitVec 32 := Scalar.addi c0_i32_456 v509
  v510.toNat
def k0_dev81 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_461 : BitVec 32 := 19#32
  let v519 : BitVec 32 := Scalar.addi v2 c19_i32_461
  let c32_i32_462 : BitVec 32 := 32#32
  let v520 : BitVec 32 := Scalar.remsi v519 c32_i32_462
  let c1_i32_467 : BitVec 32 := 1#32
  let v521 : BitVec 32 := Scalar.muli v520 c1_i32_467
  let v522 : BitVec 32 := Scalar.addi c0_i32_468 v521
  v522.toNat
def k0_dev82 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_473 : BitVec 32 := 20#32
  let v531 : BitVec 32 := Scalar.addi v2 c20_i32_473
  let c32_i32_474 : BitVec 32 := 32#32
  let v532 : BitVec 32 := Scalar.remsi v531 c32_i32_474
  let c1_i32_479 : BitVec 32 := 1#32
  let v533 : BitVec 32 := Scalar.muli v532 c1_i32_479
  let v534 : BitVec 32 := Scalar.addi c0_i32_480 v533
  v534.toNat
def k0_dev83 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_485 : BitVec 32 := 21#32
  let v543 : BitVec 32 := Scalar.addi v2 c21_i32_485
  let c32_i32_486 : BitVec 32 := 32#32
  let v544 : BitVec 32 := Scalar.remsi v543 c32_i32_486
  let c1_i32_491 : BitVec 32 := 1#32
  let v545 : BitVec 32 := Scalar.muli v544 c1_i32_491
  let v546 : BitVec 32 := Scalar.addi c0_i32_492 v545
  v546.toNat
def k0_dev84 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_497 : BitVec 32 := 22#32
  let v555 : BitVec 32 := Scalar.addi v2 c22_i32_497
  let c32_i32_498 : BitVec 32 := 32#32
  let v556 : BitVec 32 := Scalar.remsi v555 c32_i32_498
  let c1_i32_503 : BitVec 32 := 1#32
  let v557 : BitVec 32 := Scalar.muli v556 c1_i32_503
  let v558 : BitVec 32 := Scalar.addi c0_i32_504 v557
  v558.toNat
def k0_dev85 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_509 : BitVec 32 := 23#32
  let v567 : BitVec 32 := Scalar.addi v2 c23_i32_509
  let c32_i32_510 : BitVec 32 := 32#32
  let v568 : BitVec 32 := Scalar.remsi v567 c32_i32_510
  let c1_i32_515 : BitVec 32 := 1#32
  let v569 : BitVec 32 := Scalar.muli v568 c1_i32_515
  let v570 : BitVec 32 := Scalar.addi c0_i32_516 v569
  v570.toNat
def k0_dev86 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_521 : BitVec 32 := 24#32
  let v579 : BitVec 32 := Scalar.addi v2 c24_i32_521
  let c32_i32_522 : BitVec 32 := 32#32
  let v580 : BitVec 32 := Scalar.remsi v579 c32_i32_522
  let c1_i32_527 : BitVec 32 := 1#32
  let v581 : BitVec 32 := Scalar.muli v580 c1_i32_527
  let v582 : BitVec 32 := Scalar.addi c0_i32_528 v581
  v582.toNat
def k0_dev87 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_533 : BitVec 32 := 25#32
  let v591 : BitVec 32 := Scalar.addi v2 c25_i32_533
  let c32_i32_534 : BitVec 32 := 32#32
  let v592 : BitVec 32 := Scalar.remsi v591 c32_i32_534
  let c1_i32_539 : BitVec 32 := 1#32
  let v593 : BitVec 32 := Scalar.muli v592 c1_i32_539
  let v594 : BitVec 32 := Scalar.addi c0_i32_540 v593
  v594.toNat
def k0_dev88 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_545 : BitVec 32 := 26#32
  let v603 : BitVec 32 := Scalar.addi v2 c26_i32_545
  let c32_i32_546 : BitVec 32 := 32#32
  let v604 : BitVec 32 := Scalar.remsi v603 c32_i32_546
  let c1_i32_551 : BitVec 32 := 1#32
  let v605 : BitVec 32 := Scalar.muli v604 c1_i32_551
  let v606 : BitVec 32 := Scalar.addi c0_i32_552 v605
  v606.toNat
def k0_dev89 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_557 : BitVec 32 := 27#32
  let v615 : BitVec 32 := Scalar.addi v2 c27_i32_557
  let c32_i32_558 : BitVec 32 := 32#32
  let v616 : BitVec 32 := Scalar.remsi v615 c32_i32_558
  let c1_i32_563 : BitVec 32 := 1#32
  let v617 : BitVec 32 := Scalar.muli v616 c1_i32_563
  let v618 : BitVec 32 := Scalar.addi c0_i32_564 v617
  v618.toNat
def k0_dev90 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_569 : BitVec 32 := 28#32
  let v627 : BitVec 32 := Scalar.addi v2 c28_i32_569
  let c32_i32_570 : BitVec 32 := 32#32
  let v628 : BitVec 32 := Scalar.remsi v627 c32_i32_570
  let c1_i32_575 : BitVec 32 := 1#32
  let v629 : BitVec 32 := Scalar.muli v628 c1_i32_575
  let v630 : BitVec 32 := Scalar.addi c0_i32_576 v629
  v630.toNat
def k0_dev91 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_581 : BitVec 32 := 29#32
  let v639 : BitVec 32 := Scalar.addi v2 c29_i32_581
  let c32_i32_582 : BitVec 32 := 32#32
  let v640 : BitVec 32 := Scalar.remsi v639 c32_i32_582
  let c1_i32_587 : BitVec 32 := 1#32
  let v641 : BitVec 32 := Scalar.muli v640 c1_i32_587
  let v642 : BitVec 32 := Scalar.addi c0_i32_588 v641
  v642.toNat
def k0_dev92 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_593 : BitVec 32 := 30#32
  let v651 : BitVec 32 := Scalar.addi v2 c30_i32_593
  let c32_i32_594 : BitVec 32 := 32#32
  let v652 : BitVec 32 := Scalar.remsi v651 c32_i32_594
  let c1_i32_599 : BitVec 32 := 1#32
  let v653 : BitVec 32 := Scalar.muli v652 c1_i32_599
  let v654 : BitVec 32 := Scalar.addi c0_i32_600 v653
  v654.toNat
def k0_dev93 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_605 : BitVec 32 := 31#32
  let v663 : BitVec 32 := Scalar.addi v2 c31_i32_605
  let c32_i32_606 : BitVec 32 := 32#32
  let v664 : BitVec 32 := Scalar.remsi v663 c32_i32_606
  let c1_i32_611 : BitVec 32 := 1#32
  let v665 : BitVec 32 := Scalar.muli v664 c1_i32_611
  let v666 : BitVec 32 := Scalar.addi c0_i32_612 v665
  v666.toNat
def k0_cond6 (i : grid0.Coords) : BitVec 1 :=
  let arg0 : BitVec 32 := BitVec.ofNat 32 (i 0).val
  let c0_i32_12 : BitVec 32 := 0#32
  let v34 : BitVec 1 := Scalar.cmpi .eq arg0 c0_i32_12
  let v35 : BitVec 32 := Scalar.extui v34
  let c0_i32_13 : BitVec 32 := 0#32
  let v36 : BitVec 1 := Scalar.cmpi .ne v35 c0_i32_13
  v36

def k0_cond7 (i : grid0.Coords) : BitVec 1 :=
  let arg0 : BitVec 32 := BitVec.ofNat 32 (i 0).val
  let c0_i32_14 : BitVec 32 := 0#32
  let v37 : BitVec 1 := Scalar.cmpi .sgt arg0 c0_i32_14
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 9
  | .vmem => 2
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
module

public import proofs.«01_k».proof.Proof.Gen.KernelIdeal.Skeleton

/-! The kernel's body, its unrolled stretches of signals, sends and waits written as runs over a list of
distances, and the equation with the printed skeleton. -/

@[expose] public section

noncomputable section

namespace Cert.KernelIdeal.Own

open Idealize.ShloMosaic Idealize.SL.Sem Cert.KernelIdeal.Gen

variable {F : FTy → Type} [FloatOps F]

/-- A kernel body's program. -/
abbrev KProg (F : FTy → Type) (α : Type) := Prog (TpuEff nD τ sig (Elt F) Λ₀ .tc) α

/-- The distances from a device to its 31 peers, the distance `d + 1` written `d`. -/
abbrev dists : List (Fin 31) := [0, 1, 2, 3, 4, 5, 6, 7, 8, 9, 10, 11, 12, 13, 14, 15, 16, 17, 18, 19, 20, 21, 22, 23, 24, 25, 26, 27, 28, 29, 30]

/-- The devices the entry signals address, by distance, as the kernel computes them. -/
def sigTab (c : Dev nD) : Fin 31 → Nat := ![k0_dev1 c, k0_dev2 c, k0_dev3 c, k0_dev4 c, k0_dev5 c, k0_dev6 c, k0_dev7 c, k0_dev8 c, k0_dev9 c, k0_dev10 c, k0_dev11 c, k0_dev12 c, k0_dev13 c, k0_dev14 c, k0_dev15 c, k0_dev16 c, k0_dev17 c, k0_dev18 c, k0_dev19 c, k0_dev20 c, k0_dev21 c, k0_dev22 c, k0_dev23 c, k0_dev24 c, k0_dev25 c, k0_dev26 c, k0_dev27 c, k0_dev28 c, k0_dev29 c, k0_dev30 c, k0_dev31 c]
/-- The devices the row blocks go to, by distance, as the kernel computes them. -/
def sendTab (c : Dev nD) : Fin 31 → Nat := ![k0_dev32 c, k0_dev33 c, k0_dev34 c, k0_dev35 c, k0_dev36 c, k0_dev37 c, k0_dev38 c, k0_dev39 c, k0_dev40 c, k0_dev41 c, k0_dev42 c, k0_dev43 c, k0_dev44 c, k0_dev45 c, k0_dev46 c, k0_dev47 c, k0_dev48 c, k0_dev49 c, k0_dev50 c, k0_dev51 c, k0_dev52 c, k0_dev53 c, k0_dev54 c, k0_dev55 c, k0_dev56 c, k0_dev57 c, k0_dev58 c, k0_dev59 c, k0_dev60 c, k0_dev61 c, k0_dev62 c]
/-- The devices the maxima go to, by distance, as the kernel computes them. -/
def maxTab (c : Dev nD) : Fin 31 → Nat := ![k0_dev63 c, k0_dev64 c, k0_dev65 c, k0_dev66 c, k0_dev67 c, k0_dev68 c, k0_dev69 c, k0_dev70 c, k0_dev71 c, k0_dev72 c, k0_dev73 c, k0_dev74 c, k0_dev75 c, k0_dev76 c, k0_dev77 c, k0_dev78 c, k0_dev79 c, k0_dev80 c, k0_dev81 c, k0_dev82 c, k0_dev83 c, k0_dev84 c, k0_dev85 c, k0_dev86 c, k0_dev87 c, k0_dev88 c, k0_dev89 c, k0_dev90 c, k0_dev91 c, k0_dev92 c, k0_dev93 c]

/-- The device at distance `d + 1` after `c` on the ring. -/
def peer (c : Dev nD) (d : Fin 31) : Dev nD := ⟨(c.val + (d.val + 1)) % 32, Nat.mod_lt _ (by decide)⟩

set_option maxRecDepth 100000 in
set_option maxHeartbeats 4000000 in
theorem sigTab_eq : ∀ (c : Dev nD) (d : Fin 31), sigTab c d = (peer c d).val := by decide +kernel
set_option maxRecDepth 100000 in
set_option maxHeartbeats 4000000 in
theorem sendTab_eq : ∀ (c : Dev nD) (d : Fin 31), sendTab c d = (peer c d).val := by decide +kernel
set_option maxRecDepth 100000 in
set_option maxHeartbeats 4000000 in
theorem maxTab_eq : ∀ (c : Dev nD) (d : Fin 31), maxTab c d = (peer c d).val := by decide +kernel

theorem sigTab_lt (c : Dev nD) (d : Fin 31) : sigTab c d < nD := (sigTab_eq c d).trans_lt (peer c d).isLt
theorem sendTab_lt (c : Dev nD) (d : Fin 31) : sendTab c d < nD := (sendTab_eq c d).trans_lt (peer c d).isLt
theorem maxTab_lt (c : Dev nD) (d : Fin 31) : maxTab c d < nD := (maxTab_eq c d).trans_lt (peer c d).isLt

theorem inbSem (d : Fin 31) : ∀ a, (![1 + d.val] : Fin 1 → Nat) a + S1.size a ≤ S32.size a := by revert d; decide
theorem inbSlot (d : Fin 31) : ∀ a, (![1 + d.val, 0, 0] : Fin 3 → Nat) a + S1x8x128.size a ≤ S32x8x128.size a := by revert d; decide

abbrev xsM : Memref sig .tc .vmem S4096x128 .bf16 := Memref.whole cc0_scratch0
abbrev xgM : Memref sig .tc .vmem S128x4096 .bf16 := Memref.whole cc0_scratch1
abbrev amM : Memref sig .tc .vmem S32x8x128 .f32 := Memref.whole cc0_scratch2

/-- The semaphore at distance `d + 1` of an array of 32. -/
abbrev semAt (s : DmaSems sig S32) (d : Fin 31) : DmaSem sig :=
  ((s.slice (Rect.unit (s := S32) ![1 + d.val] S1.size (inbSem d))).squeeze S_ squeezes_S1_S_).sem

/-- The block of rows device `c` sends at distance `d + 1`. -/
abbrev srcX (i : grid0.Coords) (c : Dev nD) (h : k0_cond1 i = 1#1) (d : Fin 31) : Memref sig .tc .vmem S128x128 .bf16 :=
  xsM.slice (Rect.unit (s := S4096x128) (k0_off6 c (BitVec.ofNat 32 (1 + d.val))) S128x128.size (k0_off6_inb i c h d)) (fun _ => rfl)
/-- The strip of columns it lands in. -/
abbrev dstX (i : grid0.Coords) (c : Dev nD) (h : k0_cond1 i = 1#1) : Memref sig .tc .vmem S128x128 .bf16 :=
  xgM.slice (Rect.unit (s := S128x4096) (k0_off5 c) S128x128.size (k0_off5_inb i c h)) (fun _ => rfl)
/-- The semaphore its landing credits. -/
abbrev rcvX (i : grid0.Coords) (c : Dev nD) (h : k0_cond1 i = 1#1) : DmaSem sig :=
  ((cc0_scratch4.slice (Rect.unit (s := S32) (k0_off4 c) S1.size (k0_off4_inb i c h))).squeeze S_ squeezes_S1_S_).sem
/-- The slot of the maxima at distance `d + 1`. -/
abbrev slotM (d : Fin 31) : Memref sig .tc .vmem S8x128 .f32 :=
  (amM.slice (Rect.unit (s := S32x8x128) ![1 + d.val, 0, 0] S1x8x128.size (inbSlot d)) (fun _ => rfl)).squeeze S8x128 squeezes_S1x8x128_S8x128
/-- The device's own slot. -/
abbrev slot0 : Memref sig .tc .vmem S8x128 .f32 :=
  (amM.slice (Rect.unit (s := S32x8x128) ![0, 0, 0] S1x8x128.size inb_S32x8x128_S1x8x128_0_0_0) (fun _ => rfl)).squeeze S8x128 squeezes_S1x8x128_S8x128

abbrev barSem : Sem sig := (SemArray.scalar (sig.barrier 0 rfl) : Sems sig S_).sem

/-- The entry signals, in order. -/
def signals (c : Dev nD) : List (Fin 31) → KProg F PUnit
  | [] => pure ⟨⟩
  | d :: l => do
    semSignalWord (⟨sigTab c d, sigTab_lt c d⟩ : Dev nD) barSem 1#32
    signals c l

/-- One send of a row block. -/
def sendX (i : grid0.Coords) (c : Dev nD) (h : k0_cond1 i = 1#1) (d : Fin 31) : KProg F PUnit :=
  Prog.lift (.enqueueDma (srcX i c h d) (.remote (Dev.tc (⟨sendTab c d, sendTab_lt c d⟩ : Dev nD)) (dstX i c h) (.dma (semAt cc0_scratch3 d))) (.dma (rcvX i c h))
    ((Memref.isWhole_whole _).wordExact_slice rfl _ (k0_off6_wordsbf16 i c h d)) ((Memref.isWhole_whole _).wordExact_slice rfl _ (k0_off5_wordsbf16 i c h)) ⟨⟨rfl, Or.inl rfl⟩, trivial⟩)

/-- The sends of the row blocks, in order. -/
def sends (i : grid0.Coords) (c : Dev nD) (h : k0_cond1 i = 1#1) : List (Fin 31) → KProg F PUnit
  | [] => pure ⟨⟩
  | d :: l => do
    sendX i c h d
    sends i c h l

/-- The first grid point's prologue. -/
def prologue (arg2 : Memref sig .tc .vmem S4096x128 .bf16) (i : grid0.Coords) (c : Dev nD) (h : k0_cond1 i = 1#1) : KProg F PUnit := do
  signals c dists
  semWaitWord barSem 31#32
  let v168 : Vec F S4096x128 .bf16 ← Prog.lift (.load arg2 (Rect.unit (s := S4096x128) ![0, 0] S4096x128.size inb_S4096x128_S4096x128_0_0).toLoadRect (View.loadsAt_vmem h_S4096x128))
  let _v170 : Vec F S4096x128 .bf16 ← Prog.lift (.load xsM (Rect.unit (s := S4096x128) ![0, 0] S4096x128.size inb_S4096x128_S4096x128_0_0).toLoadRect (View.loadsAt_vmem h_S4096x128))
  Prog.lift (.store xsM (Rect.unit (s := S4096x128) ![0, 0] S4096x128.size inb_S4096x128_S4096x128_0_0) (k0_pay4 v168) Finset.univ (View.stores_vmem h_S4096x128 ((Memref.isWhole_whole _).storeExact_slice rfl _ packedbf16_S4096x128_S4096x128_0_0) (fun _ => rfl)) (.inl rfl))
  let v175 : Vec F S128x128 .bf16 ← Prog.lift (.load xsM (Rect.unit (s := S4096x128) (k0_off2 c) S128x128.size (k0_off2_inb i c h)).toLoadRect (View.loadsAt_vmem h_S128x128))
  let _v178 : Vec F S128x128 .bf16 ← Prog.lift (.load xgM (Rect.unit (s := S128x4096) (k0_off3 c) S128x128.size (k0_off3_inb i c h)).toLoadRect (View.loadsAt_vmem h_S128x128))
  Prog.lift (.store xgM (Rect.unit (s := S128x4096) (k0_off3 c) S128x128.size (k0_off3_inb i c h)) (k0_pay5 v175) Finset.univ (View.stores_vmem h_S128x128 ((Memref.isWhole_whole _).storeExact_slice rfl _ (k0_off3_packedbf16 i c h)) (fun _ => rfl)) (.inl rfl))
  sends i c h dists

/-- One wait for a sent row block to have left. -/
def waitSend (i : grid0.Coords) (c : Dev nD) (h : k0_cond8 i = 1#1) (d : Fin 31) : KProg F PUnit :=
  Prog.lift (.waitDma2 (semAt cc0_scratch3 d)
    (xgM.slice (Rect.unit (s := S128x4096) (k0_off18 c) S128x128.size (k0_off18_inb i c h)) (fun _ => rfl))
    (xsM.slice (Rect.unit (s := S4096x128) (k0_off17 c (BitVec.ofNat 32 (1 + d.val))) S128x128.size (k0_off17_inb i c h d)) (fun _ => rfl))
    ((Memref.isWhole_whole _).wordExact_slice rfl _ (k0_off18_wordsbf16 i c h)) ((Memref.isWhole_whole _).wordExact_slice rfl _ (k0_off17_wordsbf16 i c h d)))

def waitSends (i : grid0.Coords) (c : Dev nD) (h : k0_cond8 i = 1#1) : List (Fin 31) → KProg F PUnit
  | [] => pure ⟨⟩
  | d :: l => do
    waitSend i c h d
    waitSends i c h l

/-- One send of the device's maximum. -/
def sendM (c : Dev nD) (d : Fin 31) : KProg F PUnit :=
  Prog.lift (.enqueueDma slot0 (.remote (Dev.tc (⟨maxTab c d, maxTab_lt c d⟩ : Dev nD)) (slotM d) (.dma (semAt cc0_scratch5 d))) (.dma (semAt cc0_scratch6 d))
    ((View.wordExact_bits rfl).reshape _ _) ((View.wordExact_bits rfl).reshape _ _) ⟨⟨rfl, Or.inl rfl⟩, trivial⟩)

def sendMs (c : Dev nD) : List (Fin 31) → KProg F PUnit
  | [] => pure ⟨⟩
  | d :: l => do
    sendM c d
    sendMs c l

/-- The two waits at one distance: the own maximum has left, the peer's has landed. -/
def waitM (d : Fin 31) : KProg F PUnit := do
  Prog.lift (.waitDma2 (semAt cc0_scratch5 d) (slotM d) slot0 ((View.wordExact_bits rfl).reshape _ _) ((View.wordExact_bits rfl).reshape _ _))
  Prog.lift (.waitDma2 (semAt cc0_scratch6 d) slot0 (slotM d) ((View.wordExact_bits rfl).reshape _ _) ((View.wordExact_bits rfl).reshape _ _))

def waitMs : List (Fin 31) → KProg F PUnit
  | [] => pure ⟨⟩
  | d :: l => do
    waitM d
    waitMs l

/-- The last grid point's epilogue. -/
def epilogue (arg4 : Memref sig .tc .vmem S128x8192 .f32) (i : grid0.Coords) (c : Dev nD) (h : k0_cond8 i = 1#1) : KProg F PUnit := do
  waitSends i c h dists
  let v291 : Vec F S128x8192 .f32 ← Prog.lift (.load arg4 (Rect.unit (s := S128x8192) ![0, 0] S128x8192.size inb_S128x8192_S128x8192_0_0).toLoadRect (View.loadsAt_vmem h_S128x8192))
  let _v300 : Vec F S1x8x128 .f32 ← Prog.lift (.load amM (Rect.unit (s := S32x8x128) ![0, 0, 0] S1x8x128.size inb_S32x8x128_S1x8x128_0_0_0).toLoadRect (View.loadsAt_vmem h_S1x8x128))
  Prog.lift (.store amM (Rect.unit (s := S32x8x128) ![0, 0, 0] S1x8x128.size inb_S32x8x128_S1x8x128_0_0_0) (k0_pay8 (k0_pay7 v291)) Finset.univ (View.stores_vmem_bits_univ h_S1x8x128 rfl) (.inl rfl))
  sendMs c dists
  waitMs dists
  let v1171 : Vec F S32x8x128 .f32 ← Prog.lift (.load amM (Rect.unit (s := S32x8x128) ![0, 0, 0] S32x8x128.size inb_S32x8x128_S32x8x128_0_0_0).toLoadRect (View.loadsAt_vmem h_S32x8x128))
  let _v1184 : Vec F S128x8192 .f32 ← Prog.lift (.load arg4 (Rect.unit (s := S128x8192) ![0, 0] S128x8192.size inb_S128x8192_S128x8192_0_0).toLoadRect (View.loadsAt_vmem h_S128x8192))
  Prog.lift (.store arg4 (Rect.unit (s := S128x8192) ![0, 0] S128x8192.size inb_S128x8192_S128x8192_0_0) (k0_pay3 (k0_pay6 v291) (k0_pay9 v1171)) Finset.univ (View.stores_vmem_bits_univ h_S128x8192 rfl) (.inl rfl))

/-- The wait for the strip of one peer, semaphore `o` and strip `o'` given by their offsets. -/
def waitRecv (o : Fin 1 → Nat) (o' : Fin 2 → Nat) (ho : ∀ a, o a + S1.size a ≤ S32.size a) (ho' : ∀ a, o' a + S128x128.size a ≤ S128x4096.size a)
    (hw : (Rect.unit (s := S128x4096) o' S128x128.size ho').WholeWords (EltTy.packing .bf16)) : KProg F PUnit :=
  Prog.lift (.waitDma2 ((cc0_scratch4.slice (Rect.unit (s := S32) o S1.size ho)).squeeze S_ squeezes_S1_S_).sem
    (xsM.slice (Rect.unit (s := S4096x128) ![0, 0] S128x128.size inb_S4096x128_S128x128_0_0) (fun _ => rfl))
    (xgM.slice (Rect.unit (s := S128x4096) o' S128x128.size ho') (fun _ => rfl))
    ((Memref.isWhole_whole _).wordExact_slice rfl _ wordsbf16_S4096x128_S128x128_0_0) ((Memref.isWhole_whole _).wordExact_slice rfl _ hw))

/-- A test with one branch. -/
def onIf (p : Prop) [Decidable p] (k : p → KProg F PUnit) : KProg F PUnit := if h : p then k h else pure ⟨⟩

/-- The four waits at a grid point whose table entry is `v7`, those for the device's own strip left out. -/
def waits (c : Dev nD) (v7 : BitVec 32) (hw : k0_chk1 c v7) : KProg F PUnit := do
  onIf (k0_cond2 c v7 = 1#1) fun k0_h2 => waitRecv (k0_off8 v7) (k0_off9 v7) (k0_off8_inb c v7 hw k0_h2) (k0_off9_inb c v7 hw k0_h2) (k0_off9_wordsbf16 c v7 hw k0_h2)
  onIf (k0_cond3 c v7 = 1#1) fun k0_h3 => waitRecv (k0_off10 v7) (k0_off11 v7) (k0_off10_inb c v7 hw k0_h3) (k0_off11_inb c v7 hw k0_h3) (k0_off11_wordsbf16 c v7 hw k0_h3)
  onIf (k0_cond4 c v7 = 1#1) fun k0_h4 => waitRecv (k0_off12 v7) (k0_off13 v7) (k0_off12_inb c v7 hw k0_h4) (k0_off13_inb c v7 hw k0_h4) (k0_off13_wordsbf16 c v7 hw k0_h4)
  onIf (k0_cond5 c v7 = 1#1) fun k0_h5 => waitRecv (k0_off14 v7) (k0_off15 v7) (k0_off14_inb c v7 hw k0_h5) (k0_off15_inb c v7 hw k0_h5) (k0_off15_wordsbf16 c v7 hw k0_h5)

/-- The store of the first partial product. -/
def storeFirst (arg4 : Memref sig .tc .vmem S128x8192 .f32) (v30 : Vec F S128x512 .bf16) (v31 : Vec F S512x8192 .bf16) : KProg F PUnit := do
  let _v43 : Vec F S128x8192 .f32 ← Prog.lift (.load arg4 (Rect.unit (s := S128x8192) ![0, 0] S128x8192.size inb_S128x8192_S128x8192_0_0).toLoadRect (View.loadsAt_vmem h_S128x8192))
  Prog.lift (.store arg4 (Rect.unit (s := S128x8192) ![0, 0] S128x8192.size inb_S128x8192_S128x8192_0_0) (k0_pay1 v30 v31) Finset.univ (View.stores_vmem_bits_univ h_S128x8192 rfl) (.inl rfl))

/-- The accumulation of a later partial product. -/
def storeLater (arg4 : Memref sig .tc .vmem S128x8192 .f32) (v30 : Vec F S128x512 .bf16) (v31 : Vec F S512x8192 .bf16) : KProg F PUnit := do
  let v43 : Vec F S128x8192 .f32 ← Prog.lift (.load arg4 (Rect.unit (s := S128x8192) ![0, 0] S128x8192.size inb_S128x8192_S128x8192_0_0).toLoadRect (View.loadsAt_vmem h_S128x8192))
  let _v46 : Vec F S128x8192 .f32 ← Prog.lift (.load arg4 (Rect.unit (s := S128x8192) ![0, 0] S128x8192.size inb_S128x8192_S128x8192_0_0).toLoadRect (View.loadsAt_vmem h_S128x8192))
  Prog.lift (.store arg4 (Rect.unit (s := S128x8192) ![0, 0] S128x8192.size inb_S128x8192_S128x8192_0_0) (k0_pay2 v30 v31 v43) Finset.univ (View.stores_vmem_bits_univ h_S128x8192 rfl) (.inl rfl))

/-- The whole body on the scratch buffers and the staging buffers `arg2`, `arg3`, `arg4`. -/
def body (i : grid0.Coords) (arg2 : Memref sig .tc .vmem S4096x128 .bf16) (arg3 : Memref sig .tc .vmem S512x8192 .bf16) (arg4 : Memref sig .tc .vmem S128x8192 .f32) : KProg F PUnit := do
  let c : Dev nD ← Prog.lift .deviceId
  onIf (k0_cond1 i = 1#1) fun h => prologue (F := F) arg2 i c h
  let v7 : Elt F .i32 ← smemLoad (Memref.whole main_v10) (Rect.unit (s := S8) (k0_off7 i) S1.size (k0_off7_inb i)) numel1_S1 rfl
  have hw : k0_chk1 c v7 := (← Prog.lift (TpuEff.assume (k0_chk1 c v7) (k0_chk1.dec c v7))).down
  waits (F := F) c v7 hw
  let v30 : Vec F S128x512 .bf16 ← Prog.lift (.load xgM (Rect.unit (s := S128x4096) (k0_off16 v7) S128x512.size (k0_off16_inb c v7 hw)).toLoadRect (View.loadsAt_vmem h_S128x512))
  let v31 : Vec F S512x8192 .bf16 ← Prog.lift (.load arg3 (Rect.unit (s := S512x8192) ![0, 0] S512x8192.size inb_S512x8192_S512x8192_0_0).toLoadRect (View.loadsAt_vmem h_S512x8192))
  onIf (k0_cond6 i = 1#1) fun _ => storeFirst arg4 v30 v31
  onIf (k0_cond7 i = 1#1) fun _ => storeLater arg4 v30 v31
  onIf (k0_cond8 i = 1#1) fun h => epilogue arg4 i c h

end Cert.KernelIdeal.Own

end
-- ==== Proof.Cells.lean ====
module

public import proofs.«01_k».proof.Proof.Body

/-! The regions of the scratch buffers and the semaphores the protocol speaks of, and the contents the buffers
come to hold, all at a symbolic device. -/

@[expose] public section

noncomputable section

namespace Cert.KernelIdeal.Own

open Idealize.ShloMosaic Idealize.ShloMosaic.TcCoe Idealize.SL.Sem Cert.KernelIdeal.Gen

variable {F : FTy → Type} [FloatOps F]

/-! ## Peers -/

theorem peer_peer_rev : ∀ (c : Dev nD) (d : Fin 31), peer (peer c d) d.rev = c := by decide +kernel
theorem peer_ne : ∀ (c : Dev nD) (d : Fin 31), peer c d ≠ c := by decide +kernel
theorem peer_inj (c : Dev nD) : ∀ d e : Fin 31, peer c d = peer c e → d = e := by revert c; decide +kernel
theorem peer_surj : ∀ (c p : Dev nD), p ≠ c → ∃ d : Fin 31, peer c d = p := by decide +kernel
theorem rev_surj (d : Fin 31) : ∃ e : Fin 31, e.rev = d := ⟨d.rev, Fin.rev_rev d⟩

/-! ## Regions of the buffers -/

/-- The columns of the gathered operand that device `p` fills. -/
def stripS (p : Dev nD) : Finset S128x4096.Idx := Finset.univ.filter fun i => (i 1).val / 128 = p.val
/-- The columns of one group of four devices. -/
def groupS (g : Fin 8) : Finset S128x4096.Idx := Finset.univ.filter fun i => (i 1).val / 512 = g.val
/-- The rows of the own operand that device `p` needs. -/
def rowS (p : Dev nD) : Finset S4096x128.Idx := Finset.univ.filter fun i => (i 0).val / 128 = p.val
/-- A slot of the maxima. -/
def slotS (k : Fin 32) : Finset S32x8x128.Idx := Finset.univ.filter fun i => (i 0).val = k.val

theorem stripS_of (p : Dev nD) (o : Fin 2 → Nat) (ho : o = ![0, 128 * p.val]) (h : ∀ a, o a + S128x128.size a ≤ S128x4096.size a) :
    (Rect.unit (s := S128x4096) o S128x128.size h).set = stripS p := by
  subst ho
  ext i
  rw [Rect.mem_set_unit, stripS, Finset.mem_filter]
  have h0 : (i 0).val < 128 := (i 0).isLt
  have h1 : (i 1).val < 4096 := (i 1).isLt
  rw [Fin.forall_fin_two]
  show (0 ≤ (i 0).val ∧ (i 0).val < 0 + 128) ∧ (128 * p.val ≤ (i 1).val ∧ (i 1).val < 128 * p.val + 128) ↔ _
  simp only [Finset.mem_univ, true_and]
  omega

theorem groupS_of (g : Fin 8) (o : Fin 2 → Nat) (ho : o = ![0, 512 * g.val]) (h : ∀ a, o a + S128x512.size a ≤ S128x4096.size a) :
    (Rect.unit (s := S128x4096) o S128x512.size h).set = groupS g := by
  subst ho
  ext i
  rw [Rect.mem_set_unit, groupS, Finset.mem_filter]
  have h0 : (i 0).val < 128 := (i 0).isLt
  have h1 : (i 1).val < 4096 := (i 1).isLt
  rw [Fin.forall_fin_two]
  show (0 ≤ (i 0).val ∧ (i 0).val < 0 + 128) ∧ (512 * g.val ≤ (i 1).val ∧ (i 1).val < 512 * g.val + 512) ↔ _
  simp only [Finset.mem_univ, true_and]
  omega

theorem rowS_of (p : Dev nD) (o : Fin 2 → Nat) (ho : o = ![128 * p.val, 0]) (h : ∀ a, o a + S128x128.size a ≤ S4096x128.size a) :
    (Rect.unit (s := S4096x128) o S128x128.size h).set = rowS p := by
  subst ho
  ext i
  rw [Rect.mem_set_unit, rowS, Finset.mem_filter]
  have h0 : (i 0).val < 4096 := (i 0).isLt
  have h1 : (i 1).val < 128 := (i 1).isLt
  rw [Fin.forall_fin_two]
  show (128 * p.val ≤ (i 0).val ∧ (i 0).val < 128 * p.val + 128) ∧ (0 ≤ (i 1).val ∧ (i 1).val < 0 + 128) ↔ _
  simp only [Finset.mem_univ, true_and]
  omega

theorem slotS_of (k : Fin 32) (o : Fin 3 → Nat) (ho : o = ![k.val, 0, 0]) (h : ∀ a, o a + S1x8x128.size a ≤ S32x8x128.size a) :
    (Rect.unit (s := S32x8x128) o S1x8x128.size h).set = slotS k := by
  subst ho
  ext i
  rw [Rect.mem_set_unit, slotS, Finset.mem_filter]
  have h0 : (i 0).val < 32 := (i 0).isLt
  have h1 : (i 1).val < 8 := (i 1).isLt
  have h2 : (i 2).val < 128 := (i 2).isLt
  rw [Fin.forall_fin_succ, Fin.forall_fin_two]
  show (k.val ≤ (i 0).val ∧ (i 0).val < k.val + 1) ∧ (0 ≤ (i 1).val ∧ (i 1).val < 0 + 8) ∧ (0 ≤ (i 2).val ∧ (i 2).val < 0 + 128) ↔ _
  simp only [Finset.mem_univ, true_and]
  omega

theorem strips_univ : (Finset.univ : Finset S128x4096.Idx) = Finset.univ.biUnion stripS := by
  ext i
  have h1 : (i 1).val < 4096 := (i 1).isLt
  simp only [Finset.mem_univ, Finset.mem_biUnion, true_and, true_iff, stripS, Finset.mem_filter]
  exact ⟨⟨(i 1).val / 128, by show _ < 32; omega⟩, rfl⟩
theorem groups_univ : (Finset.univ : Finset S128x4096.Idx) = Finset.univ.biUnion groupS := by
  ext i
  have h1 : (i 1).val < 4096 := (i 1).isLt
  simp only [Finset.mem_univ, Finset.mem_biUnion, true_and, true_iff, groupS, Finset.mem_filter]
  exact ⟨⟨(i 1).val / 512, by omega⟩, rfl⟩
theorem rows_univ : (Finset.univ : Finset S4096x128.Idx) = Finset.univ.biUnion rowS := by
  ext i
  have h1 : (i 0).val < 4096 := (i 0).isLt
  simp only [Finset.mem_univ, Finset.mem_biUnion, true_and, true_iff, rowS, Finset.mem_filter]
  exact ⟨⟨(i 0).val / 128, by show _ < 32; omega⟩, rfl⟩
theorem slots_univ : (Finset.univ : Finset S32x8x128.Idx) = Finset.univ.biUnion slotS := by
  ext i
  have h1 : (i 0).val < 32 := (i 0).isLt
  simp only [Finset.mem_univ, Finset.mem_biUnion, true_and, true_iff, slotS, Finset.mem_filter]
  exact ⟨⟨(i 0).val, h1⟩, rfl⟩

/-- Device `4 g + j`, the `j`-th of group `g`. -/
def member (g : Fin 8) (j : Fin 4) : Dev nD := ⟨4 * g.val + j.val, by show _ < 32; omega⟩

theorem group_strips (g : Fin 8) : groupS g = Finset.univ.biUnion fun j => stripS (member g j) := by
  ext i
  have h1 : (i 1).val < 4096 := (i 1).isLt
  simp only [Finset.mem_univ, Finset.mem_biUnion, true_and, stripS, groupS, member, Finset.mem_filter]
  refine ⟨fun h => ⟨⟨(i 1).val / 128 % 4, Nat.mod_lt _ (by decide)⟩, Finset.mem_filter.mpr ⟨Finset.mem_univ i, ?_⟩⟩, fun ⟨j, h⟩ => ?_⟩
  · show (i 1).val / 128 = 4 * g.val + (i 1).val / 128 % 4
    omega
  · have h : (i 1).val / 128 = 4 * g.val + j.val := (Finset.mem_filter.mp h).2
    have := j.isLt; omega

theorem strips_disj {p q : Dev nD} (h : p ≠ q) : Disjoint (stripS p) (stripS q) := by
  rw [Finset.disjoint_left]
  intro i hp hq
  exact h (Fin.ext ((Finset.mem_filter.mp hp).2.symm.trans (Finset.mem_filter.mp hq).2))
theorem groups_disj {p q : Fin 8} (h : p ≠ q) : Disjoint (groupS p) (groupS q) := by
  rw [Finset.disjoint_left]
  intro i hp hq
  exact h (Fin.ext ((Finset.mem_filter.mp hp).2.symm.trans (Finset.mem_filter.mp hq).2))
theorem rows_disj {p q : Dev nD} (h : p ≠ q) : Disjoint (rowS p) (rowS q) := by
  rw [Finset.disjoint_left]
  intro i hp hq
  exact h (Fin.ext ((Finset.mem_filter.mp hp).2.symm.trans (Finset.mem_filter.mp hq).2))
theorem slots_disj {p q : Fin 32} (h : p ≠ q) : Disjoint (slotS p) (slotS q) := by
  rw [Finset.disjoint_left]
  intro i hp hq
  exact h (Fin.ext ((Finset.mem_filter.mp hp).2.symm.trans (Finset.mem_filter.mp hq).2))

/-! ## The kernel's offsets -/

set_option maxRecDepth 100000 in
set_option maxHeartbeats 4000000 in
theorem off6_eq : ∀ (c : Dev nD) (d : Fin 31), k0_off6 c (BitVec.ofNat 32 (1 + d.val)) = ![128 * (peer c d).val, 0] := by decide +kernel
theorem off5_eq : ∀ c : Dev nD, k0_off5 c = ![0, 128 * c.val] := by decide +kernel
theorem off2_eq : ∀ c : Dev nD, k0_off2 c = ![128 * c.val, 0] := by decide +kernel
theorem off3_eq : ∀ c : Dev nD, k0_off3 c = ![0, 128 * c.val] := by decide +kernel
theorem off4_eq : ∀ c : Dev nD, k0_off4 c = ![c.val] := by decide +kernel

/-- The group whose columns grid point `t` of device `c` multiplies. -/
def gOf (c : Dev nD) (t : Nat) : Fin 8 := ⟨(c.val / 4 + t) % 8, Nat.mod_lt _ (by decide)⟩
/-- Its word. -/
abbrev gW (g : Fin 8) : BitVec 32 := BitVec.ofNat 32 g.val

theorem off8_eq : ∀ g : Fin 8, k0_off8 (gW g) = ![(member g 0).val] := by decide +kernel
theorem off9_eq : ∀ g : Fin 8, k0_off9 (gW g) = ![0, 128 * (member g 0).val] := by decide +kernel
theorem off10_eq : ∀ g : Fin 8, k0_off10 (gW g) = ![(member g 1).val] := by decide +kernel
theorem off11_eq : ∀ g : Fin 8, k0_off11 (gW g) = ![0, 128 * (member g 1).val] := by decide +kernel
theorem off12_eq : ∀ g : Fin 8, k0_off12 (gW g) = ![(member g 2).val] := by decide +kernel
theorem off13_eq : ∀ g : Fin 8, k0_off13 (gW g) = ![0, 128 * (member g 2).val] := by decide +kernel
theorem off14_eq : ∀ g : Fin 8, k0_off14 (gW g) = ![(member g 3).val] := by decide +kernel
theorem off15_eq : ∀ g : Fin 8, k0_off15 (gW g) = ![0, 128 * (member g 3).val] := by decide +kernel
theorem off16_eq : ∀ g : Fin 8, k0_off16 (gW g) = ![0, 512 * g.val] := by decide +kernel
theorem cond2_iff : ∀ (c : Dev nD) (g : Fin 8), k0_cond2 c (gW g) = 1#1 ↔ member g 0 ≠ c := by decide +kernel
theorem cond3_iff : ∀ (c : Dev nD) (g : Fin 8), k0_cond3 c (gW g) = 1#1 ↔ member g 1 ≠ c := by decide +kernel
theorem cond4_iff : ∀ (c : Dev nD) (g : Fin 8), k0_cond4 c (gW g) = 1#1 ↔ member g 2 ≠ c := by decide +kernel
theorem cond5_iff : ∀ (c : Dev nD) (g : Fin 8), k0_cond5 c (gW g) = 1#1 ↔ member g 3 ≠ c := by decide +kernel

/-! ## Semaphores -/

/-- The kernel's own 128 semaphores: of array `a`, number `k`. -/
def osem (x : Fin 4 × Fin 32) : SemLoc sig := .dma ⟨4 + 32 * x.1.val + x.2.val, by show _ < 132; omega⟩

/-- Which semaphore of array `a` device `c` uses at distance `d + 1`: the landings of the row blocks go by the sender,
everything else by the distance. -/
def num (c : Dev nD) (a : Fin 4) (d : Fin 31) : Fin 32 := if a = 1 then peer c d else d.succ
/-- The cell of that semaphore. -/
abbrev cellAt (c : Dev nD) (a : Fin 4) (d : Fin 31) : GSem nD τ sig := ((c : Thread nD τ), osem (a, num c a d))
abbrev barCell (c : Dev nD) : GSem nD τ sig := ((c : Thread nD τ), .reg barSem)

/-- Which array and distance a semaphore of device `c` is of. -/
def decode (c : Dev nD) : SemLoc sig → Option (Fin 4 × Fin 31)
  | .reg _ => none
  | .dma s =>
    if h : 4 ≤ s.val then
      let a : Fin 4 := ⟨(s.val - 4) / 32 % 4, Nat.mod_lt _ (by decide)⟩
      let k : Nat := (s.val - 4) % 32
      let e : Nat := if a = 1 then (k + 32 - c.val) % 32 else k
      if h : 1 ≤ e ∧ e < 32 then some (a, ⟨e - 1, by omega⟩) else none
    else none

theorem decode_osem (c : Dev nD) (a : Fin 4) (d : Fin 31) : decode c (osem (a, num c a d)) = some (a, d) := by
  revert c a d; decide +kernel
theorem decode_idle1 (c : Dev nD) : decode c (osem (1, c)) = none := by revert c; decide +kernel
theorem osem_inj : Function.Injective osem := by
  intro x y h
  have h := congrArg (fun s : SemLoc sig => match s with | .dma s => s.val | .reg _ => 0) h
  have h : 4 + 32 * x.1.val + x.2.val = 4 + 32 * y.1.val + y.2.val := h
  exact Prod.ext (Fin.ext (by omega)) (Fin.ext (by omega))
theorem osem_ne_bar (x : Fin 4 × Fin 32) : osem x ≠ .reg barSem := fun h => by cases h
theorem num_inj (c : Dev nD) (a : Fin 4) {d e : Fin 31} (h : num c a d = num c a e) : d = e := by
  unfold num at h
  split at h
  · exact peer_inj c d e h
  · exact Fin.succ_injective _ h

theorem semAt3_eq (c : Dev nD) (d : Fin 31) : (SemLoc.dma (semAt cc0_scratch3 d) : SemLoc sig) = osem (0, num c 0 d) := by
  revert c d; decide +kernel
theorem semAt5_eq (c : Dev nD) (d : Fin 31) : (SemLoc.dma (semAt cc0_scratch5 d) : SemLoc sig) = osem (2, num c 2 d) := by
  revert c d; decide +kernel
theorem semAt6_eq (c : Dev nD) (d : Fin 31) : (SemLoc.dma (semAt cc0_scratch6 d) : SemLoc sig) = osem (3, num c 3 d) := by
  revert c d; decide +kernel
theorem recvSem_eq (p : Dev nD) (o : Fin 1 → Nat) (ho : o = ![p.val]) (h : ∀ a, o a + S1.size a ≤ S32.size a) :
    (SemLoc.dma (((cc0_scratch4.slice (Rect.unit (s := S32) o S1.size h)).squeeze S_ squeezes_S1_S_).sem) : SemLoc sig) = osem (1, p) := by
  subst ho; revert p; decide

/-! ## Contents -/

def xsIx (r : Fin 4096) (k : Fin 128) : S4096x128.Idx | ⟨0, _⟩ => r | ⟨1, _⟩ => k
def xgIx (r : Fin 128) (k : Fin 4096) : S128x4096.Idx | ⟨0, _⟩ => r | ⟨1, _⟩ => k
def wIx (r : Fin 4096) (k : Fin 8192) : S4096x8192.Idx | ⟨0, _⟩ => r | ⟨1, _⟩ => k
def slotIx (r : Fin 8) (k : Fin 128) : S1x8x128.Idx | ⟨0, _⟩ => ⟨0, Nat.one_pos⟩ | ⟨1, _⟩ => r | ⟨2, _⟩ => k

variable (m : (ℓ : Loc nD τ sig) → Buf (Elt F) ℓ)

/-- Device `c`'s block of the first operand. -/
def xOf (c : Dev nD) : Vec F S4096x128 .bf16 := fun i => m ((c : Thread nD τ).loc main_arg0) i
/-- Device `c`'s copy of the second operand. -/
def wOf (c : Dev nD) : Vec F S4096x8192 .bf16 := fun i => m ((c : Thread nD τ).loc main_arg1) i

/-- What the gathered operand of device `c` holds once every strip has landed: column `128 p + k` of device `c`'s rows
is column `k` of device `p`'s block. -/
def xg (c : Dev nD) : Vec F S128x4096 .bf16 := fun i =>
  xOf m ⟨(i 1).val / 128, by have h : (i 1).val < 4096 := (i 1).isLt; show _ < 32; omega⟩
    (xsIx ⟨128 * c.val + (i 0).val, by have h : (i 0).val < 128 := (i 0).isLt; have : c.val < 32 := c.isLt; omega⟩ ⟨(i 1).val % 128, Nat.mod_lt _ (by decide)⟩)

/-- The columns of group `gOf c t`, and the rows of the second operand they meet. -/
def xblk (c : Dev nD) (t : Nat) : Vec F S128x512 .bf16 := fun i =>
  xg m c (xgIx (i 0) ⟨512 * (gOf c t).val + (i 1).val, by have h : (i 1).val < 512 := (i 1).isLt; omega⟩)
def wblk (c : Dev nD) (t : Nat) : Vec F S512x8192 .bf16 := fun i =>
  wOf m c (wIx ⟨512 * (gOf c t).val + (i 0).val, by have h : (i 0).val < 512 := (i 0).isLt; omega⟩ (i 1))

/-- The output block after grid points `0 … t`. -/
def acc (c : Dev nD) : Nat → Vec F S128x8192 .f32
  | 0 => k0_pay1 (xblk m c 0) (wblk m c 0)
  | t + 1 => k0_pay2 (xblk m c (t + 1)) (wblk m c (t + 1)) (acc c t)

/-- Device `c`'s own slot of the maxima. -/
def mx (c : Dev nD) : Vec F S1x8x128 .f32 := k0_pay8 (k0_pay7 (acc m c 7))
/-- The device whose maximum slot `k` of device `c` holds. -/
def srcDev (c : Dev nD) (k : Nat) : Dev nD := ⟨(c.val + 32 - k) % 32, Nat.mod_lt _ (by decide)⟩
/-- All the maxima as device `c` comes to hold them. -/
def am (c : Dev nD) : Vec F S32x8x128 .f32 := fun i => mx m (srcDev c (i 0).val) (slotIx (i 1) (i 2))

/-- Device `c`'s block of the result. -/
def res (c : Dev nD) : Vec F S128x8192 .f32 := k0_pay3 (k0_pay6 (acc m c 7)) (k0_pay9 (am m c))

theorem srcDev_zero : ∀ c : Dev nD, srcDev c 0 = c := by decide
theorem srcDev_peer : ∀ (c : Dev nD) (d : Fin 31), srcDev (peer c d) (1 + d.val) = c := by decide +kernel

end Cert.KernelIdeal.Own

end
-- ==== Proof.Protocol.lean ====
module

public import proofs.«01_k».proof.Proof.Cells
public import proofs.«01_k».proof.Proof.Gen.KernelIdeal.Launch
public import Idealize.ShloMosaic.Lib.Pipeline.Regions
public import Idealize.ShloMosaic.Lib.Rounds.Family
public import Idealize.ShloMosaic.Lib.Transfers
public import Idealize.ShloMosaic.Lib.Pipeline.Kit
public import Idealize.ShloMosaic.Lib.Tactic
public import Idealize.ShloMosaic.Lib.Pipeline.ValueKit.Geometry

/-! The protocol of the two exchanges: which cell is paid by whom, how much, and what each payment hands over.

A device first tells each of its 31 peers that it has entered: the unit hands over the strip of the device's own
gathered operand that the peer will fill and the slot of the maxima that the peer will fill. Each row block sent hands
its peer the strip filled; each maximum sent hands its peer the slot filled. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The pipeline's ghost state beside the protocol's. -/
abbrev UU : Type := UR sig nD τ × URounds (GSem nD τ sig) (Fin 31)

local notation "𝕄" => MT nD τ sig Unit (Elt F) ℕ UU ℕ

variable (F) in
abbrev EP : Emb (UR sig nD τ) (MT nD τ sig Unit (Elt F) ℕ UU ℕ) := embL
variable (F) in
abbrev ER : Emb (URounds (GSem nD τ sig) (Fin 31)) (MT nD τ sig Unit (Elt F) ℕ UU ℕ) := embR

/-! ## Points-tos -/

/-- Part of device `c`'s copy of its rows; of its gathered operand; of its maxima. -/
abbrev xsP (c : Dev nD) (S : Finset S4096x128.Idx) (f : Vec F S4096x128 .bf16) : sProp 𝕄 :=
  ((c : Thread nD τ).loc cc0_scratch0) ↦[S]{fullShare} f
abbrev xgP (c : Dev nD) (S : Finset S128x4096.Idx) (f : Vec F S128x4096 .bf16) : sProp 𝕄 :=
  ((c : Thread nD τ).loc cc0_scratch1) ↦[S]{fullShare} f
abbrev amP (c : Dev nD) (S : Finset S32x8x128.Idx) (q : PosShare TreeShare) (f : Vec F S32x8x128 .f32) : sProp 𝕄 :=
  ((c : Thread nD τ).loc cc0_scratch2) ↦[S]{q} f

variable (m : (ℓ : Loc nD τ sig) → Buf (Elt F) ℓ)

/-! ## Payloads -/

/-- What peer `e` hands device `c` on entering: its strip and its slot for `c`, and that the cells of their landings
are ready. -/
def barPay (c : Dev nD) (e : Fin 31) : sProp 𝕄 :=
  iprop((∃ f, xgP (peer c e) (stripS c) f) ∗ (∃ f, amP (peer c e) (slotS e.succ) fullShare f)
    ∗ reached (ER F) (cellAt (peer c e) 1 e.rev) 0 ∗ reached (ER F) (cellAt (peer c e) 3 e) 0)

/-- What the copies hand device `c` at distance `d + 1`: the rows it sent; the strip filled by that peer; its share of
its own maximum, sent; the slot filled by the peer at that distance before it. -/
def dmaPay (c : Dev nD) : Fin 4 → Fin 31 → sProp 𝕄
  | 0, d => xsP c (rowS (peer c d)) (xOf m c)
  | 1, d => xgP c (stripS (peer c d)) (xg m c)
  | 2, d => amP c (slotS 0) (Transfers.shareTok fullShare 31 d) (am m c)
  | 3, d => amP c (slotS d.succ) fullShare (am m c)

/-- The credit of one row block; of one maximum. -/
abbrev Nx : ℕ := (srcX' : Memref sig .tc .vmem S128x128 .bf16).view.dmaCredit
  where srcX' : Memref sig .tc .vmem S128x128 .bf16 := xsM.slice (Rect.unit (s := S4096x128) ![0, 0] S128x128.size inb_S4096x128_S128x128_0_0) (fun _ => rfl)
abbrev Nm : ℕ := slot0.view.dmaCredit

def amt (a : Fin 4) : ℕ := if a.val < 2 then Nx else Nm

theorem amt_pos (a : Fin 4) : 0 < amt a := by
  unfold amt; split
  · exact View.dmaCredit_pos _ (by decide)
  · exact View.dmaCredit_pos _ (by decide)

/-- The schedule: on a barrier cell one unit from each peer, on every other cell one copy. -/
def Rd : Rounds.Schedule (GSem nD τ sig) (Fin 31) 𝕄 where
  duties g r := if r = 0 then (if g.2 = .reg barSem then Finset.univ else match decode g.1.1 g.2 with | some _ => {0} | none => ∅) else ∅
  unitless _ := False
  amount g _ _ := if g.2 = .reg barSem then 1 else match decode g.1.1 g.2 with | some x => amt x.1 | none => 1
  payload g _ e := if g.2 = .reg barSem then barPay g.1.1 e else match decode g.1.1 g.2 with | some x => dmaPay m g.1.1 x.1 x.2 | none => iprop(emp)
  amount_pos g _ _ _ := by
    split
    · exact Nat.one_pos
    · split
      · exact amt_pos _
      · exact Nat.one_pos

instance dmaPay_storable (c : Dev nD) (a : Fin 4) (d : Fin 31) : BI.Storable (upEmb : UEmb _ 𝕄) (dmaPay m c a d) := by
  fin_cases a <;> (dsimp only [dmaPay]; infer_instance)

instance Rd_payload_storable (g : GSem nD τ sig) (r : ℕ) (e : Fin 31) :
    BI.Storable (upEmb : UEmb _ 𝕄) ((Rd (F := F) m).payload g r e) := by
  show BI.Storable upEmb (if g.2 = .reg barSem then barPay g.1.1 e else match decode g.1.1 g.2 with | some x => dmaPay m g.1.1 x.1 x.2 | none => iprop(emp))
  unfold barPay
  split
  · infer_instance
  · split <;> infer_instance

section Sched
variable (c : Dev nD)

theorem duties_bar : (Rd (F := F) m).duties (barCell c) 0 = Finset.univ := by dsimp only [Rd]; rw [if_pos rfl, if_pos rfl]
theorem duties_at (a : Fin 4) (d : Fin 31) : (Rd (F := F) m).duties (cellAt c a d) 0 = {0} := by
  dsimp only [Rd]; rw [if_pos rfl, if_neg (osem_ne_bar _), decode_osem]
theorem duties_later (g : GSem nD τ sig) : ∀ r, 1 ≤ r → (Rd (F := F) m).duties g r = ∅ := fun r hr => by
  dsimp only [Rd]; rw [if_neg (by omega)]
theorem amount_bar (e : Fin 31) : (Rd (F := F) m).amount (barCell c) 0 e = 1 := by dsimp only [Rd]; rw [if_pos rfl]
theorem amount_at (a : Fin 4) (d e : Fin 31) : (Rd (F := F) m).amount (cellAt c a d) 0 e = amt a := by
  dsimp only [Rd]; rw [if_neg (osem_ne_bar _), decode_osem]
theorem expect_bar : (Rd (F := F) m).expect (barCell c) 0 = 31 := by
  unfold Schedule.expect Schedule.amountOf
  rw [duties_bar, Finset.sum_congr rfl fun e _ => amount_bar m c e, Finset.sum_const]; rfl
theorem expect_at (a : Fin 4) (d : Fin 31) : (Rd (F := F) m).expect (cellAt c a d) 0 = amt a := by
  unfold Schedule.expect Schedule.amountOf
  rw [duties_at, Finset.sum_singleton, amount_at]
theorem payload_bar (e : Fin 31) : (Rd (F := F) m).payload (barCell c) 0 e = barPay c e := by dsimp only [Rd]; rw [if_pos rfl]
theorem payload_at (a : Fin 4) (d e : Fin 31) : (Rd (F := F) m).payload (cellAt c a d) 0 e = dmaPay m c a d := by
  dsimp only [Rd]; rw [if_neg (osem_ne_bar _), decode_osem]
theorem rest_bar : bigSep ((Rd (F := F) m).duties (barCell c) 0 \ ∅) (fun e => (Rd (F := F) m).payload (barCell c) 0 e) = bigSep Finset.univ (barPay (F := F) c) := by
  rw [Finset.sdiff_empty, duties_bar]; exact bigSep_congr fun e _ => payload_bar m c e
theorem rest_at (a : Fin 4) (d : Fin 31) :
    bigSep ((Rd (F := F) m).duties (cellAt c a d) 0 \ ∅) (fun e => (Rd (F := F) m).payload (cellAt c a d) 0 e) = dmaPay m c a d := by
  rw [Finset.sdiff_empty, duties_at, bigSep_singleton, payload_at]
end Sched

/-! ## What each device owes; the levels -/

/-- What is still owed when the payments at the distances of a list are to come. -/
def owe (f : Fin 31 → CellTallies nD τ sig Unit) : List (Fin 31) → CellTallies nD τ sig Unit
  | [] => 0
  | d :: l => owe f l + f d

/-- The unit at each peer's barrier; the row block and the maximum to each peer. -/
abbrev tB (c : Dev nD) (d : Fin 31) : CellTallies nD τ sig Unit := tallyAt (barCell (peer c d)) () 1
abbrev tX (c : Dev nD) (d : Fin 31) : CellTallies nD τ sig Unit := tallyAt (cellAt (peer c d) 1 d.rev) () (amt 1)
abbrev tM (c : Dev nD) (d : Fin 31) : CellTallies nD τ sig Unit := tallyAt (cellAt (peer c d) 3 d) () (amt 3)

abbrev oweM (c : Dev nD) : CellTallies nD τ sig Unit := owe (tM c) dists
abbrev oweXM (c : Dev nD) (l : List (Fin 31)) : CellTallies nD τ sig Unit := oweM c + owe (tX c) l
def O₀ (c : Dev nD) : CellTallies nD τ sig Unit := oweXM c dists + owe (tB c) dists

def L (g : GSem nD τ sig) : Finset Unit := if g.1.2 = .tc then {()} else ∅
/-- The order in which waits may depend on one another: own sends and the pipeline lowest, then the barrier, the row
blocks, the maxima. -/
def lv (g : GSem nD τ sig) (_ : Unit) : ℕ :=
  if g.2 = .reg barSem then 1 else match decode g.1.1 g.2 with | some x => (if x.1 = 1 then 2 else if x.1 = 3 then 3 else 0) | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_at (c : Dev nD) (a : Fin 4) (d : Fin 31) : lv (cellAt c a d) () = if a = 1 then 2 else if a = 3 then 3 else 0 := by
  unfold lv; rw [if_neg (osem_ne_bar _), decode_osem]
theorem lv_low (g : GSem nD τ sig) (h : g.2 ≠ .reg barSem) (h' : decode g.1.1 g.2 = none) : lv g () = 0 := by
  unfold lv; rw [if_neg h, h']

theorem owe_pos (f : Fin 31 → CellTallies nD τ sig Unit) (l : List (Fin 31)) (g : GSem nD τ sig) (u : Unit) (h : 0 < owe f l g u) :
    ∃ d, 0 < f d g u := by
  induction l with
  | nil => exact absurd h (Nat.lt_irrefl 0)
  | cons d l ih =>
    rw [owe, Pi.add_apply, Finsupp.add_apply] at h
    rcases Nat.add_pos_iff_pos_or_pos.mp h with h | h
    · exact ih h
    · exact ⟨d, h⟩
theorem tally_pos {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)
theorem oweM_pos {c : Dev nD} {l : List (Fin 31)} {g : GSem nD τ sig} {u : Unit} (h : 0 < owe (tM c) l g u) :
    u ∈ L g ∧ lv g u = 3 := by
  obtain ⟨d, h⟩ := owe_pos _ _ _ _ h
  obtain rfl := tally_pos h
  exact ⟨by rw [L_tc]; exact Finset.mem_singleton_self _, lv_at _ 3 _⟩
theorem oweX_pos {c : Dev nD} {l : List (Fin 31)} {g : GSem nD τ sig} {u : Unit} (h : 0 < owe (tX c) l g u) :
    u ∈ L g ∧ lv g u = 2 := by
  obtain ⟨d, h⟩ := owe_pos _ _ _ _ h
  obtain rfl := tally_pos h
  refine ⟨by rw [L_tc]; exact Finset.mem_singleton_self _, ?_⟩
  have e : num (peer c d) 1 d.rev = num (peer c d) 1 d.rev := rfl
  exact lv_at (peer c d) 1 d.rev
theorem oweB_pos {c : Dev nD} {l : List (Fin 31)} {g : GSem nD τ sig} {u : Unit} (h : 0 < owe (tB c) l g u) :
    u ∈ L g ∧ lv g u = 1 := by
  obtain ⟨d, h⟩ := owe_pos _ _ _ _ h
  obtain rfl := tally_pos h
  exact ⟨by rw [L_tc]; exact Finset.mem_singleton_self _, lv_bar _⟩
theorem oweXM_pos {c : Dev nD} {l : List (Fin 31)} {g : GSem nD τ sig} {u : Unit} (h : 0 < oweXM c l g u) :
    u ∈ L g ∧ 2 ≤ lv g u := by
  have h : 0 < (oweM c + owe (tX c) l) g u := h
  rw [Pi.add_apply, Finsupp.add_apply] at h
  rcases Nat.add_pos_iff_pos_or_pos.mp h with h | h
  · exact ⟨(oweM_pos h).1, by rw [(oweM_pos h).2]; decide⟩
  · exact ⟨(oweX_pos h).1, by rw [(oweX_pos h).2]⟩
theorem O₀_pos {c : Dev nD} {g : GSem nD τ sig} {u : Unit} (h : 0 < O₀ c g u) : u ∈ L g ∧ 1 ≤ lv g u := by
  unfold O₀ at h
  rw [Pi.add_apply, Finsupp.add_apply] at h
  rcases Nat.add_pos_iff_pos_or_pos.mp h with h | h
  · exact ⟨(oweXM_pos h).1, (by decide : 1 ≤ 2).trans (oweXM_pos h).2⟩
  · exact ⟨(oweB_pos h).1, by rw [(oweB_pos h).2]⟩

/-- A wait on a cell of device `c` below everything owed. -/
theorem mayWait (c : Dev nD) (sm : SemLoc sig) (b : ℕ) (O : CellTallies nD τ sig Unit) (hb : lv ((c : Thread nD τ), sm) () ≤ b)
    (hO : ∀ g u, 0 < O g u → u ∈ L g ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hb) (fun g u hg => (hO g u hg).2)

theorem mayWait_bar (c : Dev nD) : (levAts L lv : sProp 𝕄) ⊢ MayWait (c : Thread nD τ) (.reg barSem) () (oweXM c dists) :=
  mayWait c _ 1 _ (le_of_eq (lv_bar c)) fun g u h => oweXM_pos h
theorem mayWait_recv (c : Dev nD) (d : Fin 31) : (levAts L lv : sProp 𝕄) ⊢ MayWait (c : Thread nD τ) (osem (1, num c 1 d)) () (oweM c) :=
  mayWait c _ 2 _ (le_of_eq (lv_at c 1 d)) fun g u h => ⟨(oweM_pos h).1, by rw [(oweM_pos h).2]; decide⟩
theorem mayWait_send (c : Dev nD) (d : Fin 31) : (levAts L lv : sProp 𝕄) ⊢ MayWait (c : Thread nD τ) (osem (0, num c 0 d)) () (oweM c) :=
  mayWait c _ 2 _ (by rw [lv_at c 0 d]; decide) fun g u h => ⟨(oweM_pos h).1, by rw [(oweM_pos h).2]; decide⟩

/-! ## What the landings write -/

/-- A row block landed in its strip. -/
theorem landX (c p : Dev nD) (src dst : Fin 2 → Nat) (hs : src = ![128 * p.val, 0]) (hd : dst = ![0, 128 * c.val])
    (is : ∀ a, src a + S128x128.size a ≤ S4096x128.size a) (id : ∀ a, dst a + S128x128.size a ≤ S128x4096.size a)
    (fd : Vec F S128x4096 .bf16) (i : S128x4096.Idx) (hi : i ∈ stripS c) :
    ((xgM.slice (Rect.unit (s := S128x4096) dst S128x128.size id) (fun _ => rfl)).view.write (Elt F) fd
      ((xsM.slice (Rect.unit (s := S4096x128) src S128x128.size is) (fun _ => rfl)).view.read (Elt F) (xOf m c)) Finset.univ : Vec F S128x4096 .bf16) i
      = xg m p i := by
  rw [← stripS_of c dst hd id, ← Rect.map_emb_univ, Finset.mem_map] at hi
  obtain ⟨j, -, rfl⟩ := hi
  have hw := View.write_emb_of_mem (Val := Elt F) (v := (xgM.slice (Rect.unit (s := S128x4096) dst S128x128.size id) (fun _ => rfl)).view) fd
    ((xsM.slice (Rect.unit (s := S4096x128) src S128x128.size is) (fun _ => rfl)).view.read (Elt F) (xOf m c)) (Finset.mem_univ j)
  refine hw.trans ?_
  subst hs hd
  show xOf m c ((Rect.unit (s := S4096x128) ![128 * p.val, 0] S128x128.size is).emb j) = xg m p ((Rect.unit (s := S128x4096) ![0, 128 * c.val] S128x128.size id).emb j)
  have j0 : (j 0).val < 128 := (j 0).isLt
  have j1 : (j 1).val < 128 := (j 1).isLt
  have e0 : ((Rect.unit (s := S128x4096) ![0, 128 * c.val] S128x128.size id).emb j 0).val = 0 + (j 0).val := ValueKit.rect_emb_unit_val _ _ _ _ _
  have e1 : ((Rect.unit (s := S128x4096) ![0, 128 * c.val] S128x128.size id).emb j 1).val = 128 * c.val + (j 1).val := ValueKit.rect_emb_unit_val _ _ _ _ _
  have f0 : ((Rect.unit (s := S4096x128) ![128 * p.val, 0] S128x128.size is).emb j 0).val = 128 * p.val + (j 0).val := ValueKit.rect_emb_unit_val _ _ _ _ _
  have f1 : ((Rect.unit (s := S4096x128) ![128 * p.val, 0] S128x128.size is).emb j 1).val = 0 + (j 1).val := ValueKit.rect_emb_unit_val _ _ _ _ _
  unfold xg
  congr 1
  · congr 1; exact Fin.ext (by show c.val = _ / 128; rw [e1]; omega)
  · funext a
    refine Fin.ext ?_
    fin_cases a
    · show _ = 128 * p.val + _; rw [e0]; exact f0.trans (by omega)
    · show _ = _ % 128; rw [e1]; exact f1.trans (by omega)

end Cert.KernelIdeal.Own

end
-- ==== Proof.Steps.lean ====
module

public import proofs.«01_k».proof.Proof.Protocol
public import Idealize.ShloMosaic.Lib.Pipeline.BigSepL

/-! The runs of the body's stretches of signals, sends and waits, each over a list of distances. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The records -/

/-- The invariant of a cell, at the name it was given. -/
abbrev inv (κ : GSem nD τ sig → ℕ) (g : GSem nD τ sig) : sProp 𝕄 := cellInv (ER F) (Rd m) (κ g) g

/-- Every cell's invariant, and that every barrier cell is ready. -/
def recs (κ : GSem nD τ sig → ℕ) : sProp 𝕄 :=
  iprop((bigSep Finset.univ fun c : Dev nD => iprop(inv m κ (barCell c) ∗ reached (ER F) (barCell c) 0))
    ∗ bigSep Finset.univ fun x : Dev nD × Fin 4 × Fin 31 => inv m κ (cellAt x.1 x.2.1 x.2.2))

instance recs_persistent (κ : GSem nD τ sig → ℕ) : BI.Persistent (recs m κ) := by unfold recs; infer_instance

theorem recs_bar (κ : GSem nD τ sig → ℕ) (c : Dev nD) : recs m κ ⊢ iprop(inv m κ (barCell c) ∗ reached (ER F) (barCell c) 0) := by
  unfold recs
  exact sep_elim_left.trans (bigSep_elim (Finset.mem_univ c))
theorem recs_at (κ : GSem nD τ sig → ℕ) (c : Dev nD) (a : Fin 4) (d : Fin 31) : recs m κ ⊢ inv m κ (cellAt c a d) := by
  unfold recs
  exact sep_elim_right.trans (bigSep_elim (Finset.mem_univ (c, a, d)))

theorem pay0 (c : Dev nD) (d : Fin 31) : dmaPay m c 0 d = xsP c (rowS (peer c d)) (xOf m c) := rfl
theorem pay1 (c : Dev nD) (d : Fin 31) : dmaPay m c 1 d = xgP c (stripS (peer c d)) (xg m c) := rfl
theorem pay2 (c : Dev nD) (d : Fin 31) : dmaPay m c 2 d = amP c (slotS 0) (Transfers.shareTok fullShare 31 d) (am m c) := rfl
theorem pay3 (c : Dev nD) (d : Fin 31) : dmaPay m c 3 d = amP c (slotS d.succ) fullShare (am m c) := rfl

theorem credit_xs (o : Fin 2 → Nat) (h : ∀ a, o a + S128x128.size a ≤ S4096x128.size a) :
    (xsM.slice (Rect.unit (s := S4096x128) o S128x128.size h) (fun _ => rfl)).view.dmaCredit = Nx := rfl
theorem credit_xg (o : Fin 2 → Nat) (h : ∀ a, o a + S128x128.size a ≤ S128x4096.size a) :
    (xgM.slice (Rect.unit (s := S128x4096) o S128x128.size h) (fun _ => rfl)).view.dmaCredit = Nx := rfl
theorem credit_am (d : Fin 31) : (slotM d).view.dmaCredit = Nm := rfl
theorem amt0 : Nx = amt 0 := (if_pos (by decide)).symm
theorem amt1 : Nx = amt 1 := (if_pos (by decide)).symm
theorem amt2 : Nm = amt 2 := (if_neg (by decide)).symm
theorem amt3 : Nm = amt 3 := (if_neg (by decide)).symm

/-! ## One send, one wait -/

/-- One copy to another device, its two cells named. -/
theorem send_rule {c c₁ : Dev nD} (c' : Dev nD) (h₃ : c' = c₁) {sp sp' : CoreSpace} {s : Shape} {e : EltTy} {src : Memref sig .tc sp s e} {dst : Memref sig .tc sp' s e}
    {hsc : dst.view.ref.isScScratch = false} {sS sem : SemLoc sig}
    {hsrc : src.view.WordExact} {hdst : dst.view.WordExact} {hsem : DmaTarget.Typed sp sem (.remote (c₁ : Thread nD τ) dst sS hsc)}
    {k : PUnit → KProg F PUnit} {Q : PUnit → sProp 𝕄} (q : PosShare TreeShare)
    (fs : Buf (Elt F) (src.view.loc (c : Thread nD τ))) (fd : Buf (Elt F) (dst.view.loc (c' : Thread nD τ)))
    (κ : GSem nD τ sig → ℕ) (a a' : Fin 4) (d d' : Fin 31)
    (h₁ : sS = osem (a, num c a d)) (h₂ : sem = osem (a', num c' a' d')) (N : ℕ) (hN : dst.view.amount sem = N) (ha : amt a = N) (ha' : amt a' = N)
    (O : CellTallies nD τ sig Unit) (W : Waits sig Unit)
    (hpay₁ : (src.view.loc (c : Thread nD τ) ↦[src.view.set]{q} fs : sProp 𝕄) ⊢ dmaPay m c a d)
    (hpay₂ : (dst.view.loc (c' : Thread nD τ) ↦[dst.view.set]{fullShare} (dst.view.write (Elt F) fd (src.view.read (Elt F) fs) Finset.univ) : sProp 𝕄)
      ⊢ dmaPay m c' a' d') :
    iprop(recs m κ
        ∗ (src.view.loc (c : Thread nD τ) ↦[src.view.set]{q} fs) ∗ (dst.view.loc (c' : Thread nD τ) ↦[dst.view.set]{fullShare} fd)
        ∗ owes (c : Thread nD τ) (O + tallyAt (cellAt c' a' d') () N) W
        ∗ dutyTok (ER F) (cellAt c a d) 0 0 ∗ reached (ER F) (cellAt c a d) 0
        ∗ dutyTok (ER F) (cellAt c' a' d') 0 0 ∗ reached (ER F) (cellAt c' a' d') 0
        ∗ ((cred (tallyAt (cellAt c a d) () N) ∗ owes (c : Thread nD τ) O W) -∗ wp frame (wpE (defs₀ (F := F)) 𝒱₀ c none) Set.univ (k ⟨⟩) Q))
      ⊢ wp frame (wpE (defs₀ (F := F)) 𝒱₀ c none) Set.univ (.op (.enqueueDma src (.remote (c₁ : Thread nD τ) dst sS hsc) sem hsrc hdst hsem) k) Q := by
  subst h₁ h₂ h₃
  iintro ⟨#HR, Hs, Hd, HO, Ht1, Hr1, Ht2, Hr2, Hk⟩
  iapply (Rounds.wp_send_pointsTo 𝒱₀ (ER F) (Rd m) (c : Thread nD τ) none (c' := (c' : Thread nD τ)) (src := src) (dst := dst)
      (q := q) (fs := fs) (κ₁ := κ (cellAt c a d)) (κ₂ := κ (cellAt c' a' d'))
      (r₁ := 0) (r₂ := 0) (d₁ := 0) (d₂ := 0) (fd := fd)
      (by rw [duties_at]; exact Finset.mem_singleton_self _) (by rw [duties_at]; exact Finset.mem_singleton_self _)
      () () N hN ((amount_at m c a d 0).trans ha) ((amount_at m c' a' d' 0).trans ha') O rfl (W := W)
      (by rw [payload_at]; exact hpay₁) (by rw [payload_at]; exact hpay₂)) $$ [Hs Hd HO Ht1 Hr1 Ht2 Hr2]
  · isplitr; · iapply (recs_at m κ c a d); iexact HR
    isplitr; · iapply (recs_at m κ c' a' d'); iexact HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- One wait for a whole copy, its cell named. -/
theorem wait_rule {c : Dev nD} {sp sp' : CoreSpace} {s s' : Shape} {e e' : EltTy} {src : Memref sig .tc sp s e} {dst : Memref sig .tc sp' s' e'}
    {sem : DmaSem sig} {hsrc : src.view.WordExact} {hdst : dst.view.WordExact}
    {k : PUnit → KProg F PUnit} {Q : PUnit → sProp 𝕄}
    (κ : GSem nD τ sig → ℕ) (a : Fin 4) (d : Fin 31)
    (h : (SemLoc.dma sem : SemLoc sig) = osem (a, num c a d)) (hN : dst.view.dmaCredit = amt a)
    (O : CellTallies nD τ sig Unit) (W : Waits sig Unit) (hO : (levAts L lv : sProp 𝕄) ⊢ MayWait (c : Thread nD τ) (osem (a, num c a d)) () O) :
    iprop(recs m κ ∗ levAts L lv ∗ cred (tallyAt (cellAt c a d) () (amt a)) ∗ owes (c : Thread nD τ) O W ∗ atPos (ER F) (cellAt c a d) 0 ∅ 0
        ∗ ((∃ W, owes (c : Thread nD τ) O W ∗ atPos (ER F) (cellAt c a d) 1 ∅ 0 ∗ dmaPay m c a d) -∗ wp frame (wpE (defs₀ (F := F)) 𝒱₀ c none) Set.univ (k ⟨⟩) Q))
      ⊢ wp frame (wpE (defs₀ (F := F)) 𝒱₀ c none) Set.univ (.op (.waitDma2 sem src dst hsrc hdst) k) Q := by
  iintro ⟨#HR, #Hlev, Hc, HO, Hat, Hk⟩
  iapply (Rounds.wp_wait_rest_token 𝒱₀ (ER F) (Rd m) (c : Thread nD τ) none (κ := κ (cellAt c a d)) (sm := osem (a, num c a d)) (k' := amt a)
      (fun K => by rw [← h, ← hN]; exact wpE_waitDma2_eq 𝒱₀ (c : Thread nD τ) none Set.univ K) (Set.mem_univ _) () (O := O) (W := W) (R := 0) (m := 0) (T := ∅)
      ((Nat.zero_add _).trans (expect_at m c a d).symm)) $$ [Hc HO Hat]
  · isplitr; · iapply (recs_at m κ c a d); iexact HR
    isplitl [Hc]; · iexact Hc
    isplitl [HO]; · iexact HO
    isplitr; · iapply hO; iexact Hlev
    iexact Hat
  iintro ⟨HO, Hat, -, Hpay⟩
  ihave Hp := (Entails.of_eq (rest_at m c a d)) $$ Hpay
  iapply Hk
  iexists _
  isplitl [HO]; · iexact HO
  isplitl [Hat]; · iexact Hat
  iexact Hp

/-! ## The entry signals -/

/-- What the signal at one distance takes. -/
def sigRes (c : Dev nD) (d : Fin 31) : sProp 𝕄 :=
  iprop(dutyTok (ER F) (barCell (peer c d)) 0 d.rev ∗ (∃ f, xgP c (stripS (peer c d)) f) ∗ (∃ f, amP c (slotS d.rev.succ) fullShare f)
    ∗ reached (ER F) (cellAt c 1 d) 0 ∗ reached (ER F) (cellAt c 3 d.rev) 0)

theorem sigRes_pay (c : Dev nD) (d : Fin 31) : iprop((∃ f, xgP c (stripS (peer c d)) f) ∗ (∃ f, amP c (slotS d.rev.succ) fullShare f)
    ∗ reached (ER F) (cellAt c 1 d) 0 ∗ reached (ER F) (cellAt c 3 d.rev) 0) ⊢ (Rd (F := F) m).payload (barCell (peer c d)) 0 d.rev := by
  rw [payload_bar]; unfold barPay; rw [peer_peer_rev, Fin.rev_rev]

theorem wp_signals (κ : GSem nD τ sig → ℕ) (c : Dev nD) (l : List (Fin 31)) (O : CellTallies nD τ sig Unit) (W : Waits sig Unit) (Q : PUnit → sProp 𝕄) :
    iprop(recs m κ ∗ bigSepL l (sigRes (F := F) c) ∗ owes (c : Thread nD τ) (O + owe (tB c) l) W ∗ (owes (c : Thread nD τ) O W -∗ Q ⟨⟩))
      ⊢ wp frame (wpE (defs₀ (F := F)) 𝒱₀ c none) Set.univ (signals (F := F) c l) Q := by
  induction l with
  | nil =>
    rw [signals, Prog.pure_eq_ret, wp_ret, owe, add_zero]
    iintro ⟨-, -, HO, Hk⟩
    imodintro
    iapply Hk; iexact HO
  | cons d l ih =>
    have e : (⟨sigTab c d, sigTab_lt c d⟩ : Dev nD) = peer c d := Fin.ext (sigTab_eq c d)
    rw [signals, e, bigSepL_cons', owe, ← add_assoc]
    simp only [semSignalWord, Prog.bind_op, Prog.bind_ret]
    iintro ⟨#HR, ⟨Hd, Hl⟩, HO, Hk⟩
    unfold sigRes
    icases Hd with ⟨Ht, Hpay⟩
    ihave Hp := (sigRes_pay m c d) $$ Hpay
    iapply (Rounds.wp_signal 𝒱₀ (ER F) (Rd m) (c : Thread nD τ) none (dst := (peer c d : Thread nD τ)) (sem := barSem) (r := 0) (d := d.rev) (κ := κ (barCell (peer c d)))
      (by rw [duties_bar]; exact Finset.mem_univ _) ((amount_bar m (peer c d) d.rev).trans (by decide)) () (O + owe (tB c) l) rfl) $$ [HO Ht Hp]
    · ihave Hb := (recs_bar m κ (peer c d)) $$ HR
      icases Hb with ⟨#HI, #Hr⟩
      isplitr; · iexact HI
      isplitl [HO]; · iexact HO
      isplitl [Ht]; · iexact Ht
      isplitl [Hp]; · iexact Hp
      iexact Hr
    iintro HO
    iapply ih
    isplitr; · iexact HR
    isplitl [Hl]; · unfold sigRes; iexact Hl
    isplitl [HO]; · iexact HO
    iexact Hk

/-! ## The row blocks -/

/-- What the send at one distance takes. -/
def sendRes (c : Dev nD) (d : Fin 31) : sProp 𝕄 :=
  iprop(xsP c (rowS (peer c d)) (xOf m c) ∗ (∃ f, xgP (peer c d) (stripS c) f) ∗ dutyTok (ER F) (cellAt c 0 d) 0 0 ∗ reached (ER F) (cellAt c 0 d) 0
    ∗ dutyTok (ER F) (cellAt (peer c d) 1 d.rev) 0 0 ∗ reached (ER F) (cellAt (peer c d) 1 d.rev) 0)

theorem num_recv (c : Dev nD) (d : Fin 31) : num (peer c d) 1 d.rev = c := by
  unfold num; rw [if_pos rfl, peer_peer_rev]

theorem srcX_set (i : grid0.Coords) (c : Dev nD) (h : k0_cond1 i = 1#1) (d : Fin 31) : (srcX i c h d).view.set = rowS (peer c d) :=
  (View.set_slice_whole _ _).trans (rowS_of (peer c d) _ (off6_eq c d) _)
theorem dstX_set (i : grid0.Coords) (c : Dev nD) (h : k0_cond1 i = 1#1) : (dstX i c h).view.set = stripS c :=
  (View.set_slice_whole _ _).trans (stripS_of c _ (off5_eq c) _)

theorem wp_sends (κ : GSem nD τ sig → ℕ) (i : grid0.Coords) (c : Dev nD) (h : k0_cond1 i = 1#1) (l : List (Fin 31)) (O : CellTallies nD τ sig Unit) (W : Waits sig Unit)
    (Q : PUnit → sProp 𝕄) :
    iprop(recs m κ ∗ bigSepL l (sendRes m c) ∗ owes (c : Thread nD τ) (O + owe (tX c) l) W
        ∗ ((bigSepL l (fun d => cred (tallyAt (cellAt c 0 d) () (amt 0))) ∗ owes (c : Thread nD τ) O W) -∗ Q ⟨⟩))
      ⊢ wp frame (wpE (defs₀ (F := F)) 𝒱₀ c none) Set.univ (sends (F := F) i c h l) Q := by
  induction l generalizing Q with
  | nil =>
    rw [sends, Prog.pure_eq_ret, wp_ret, owe, add_zero]
    iintro ⟨-, He, HO, Hk⟩
    imodintro
    iapply Hk
    isplitl [He]; · iexact He
    iexact HO
  | cons d l ih =>
    have e : (⟨sendTab c d, sendTab_lt c d⟩ : Dev nD) = peer c d := Fin.ext (sendTab_eq c d)
    rw [sends, sendX, bigSepL_cons', bigSepL_cons', owe, ← add_assoc]
    simp only [Prog.lift, Prog.bind_op, Prog.bind_ret]
    iintro ⟨#HR, ⟨Hd, Hl⟩, HO, Hk⟩
    ihave Hd := (Entails.of_eq (sendRes.eq_1 m c d)) $$ Hd
    icases Hd with ⟨Hs, ⟨%fd, Hdst⟩, Ht1, Hr1, Ht2, Hr2⟩
    iapply (send_rule m (c := c) (peer c d) e.symm (src := srcX i c h d) (dst := dstX i c h) fullShare (xOf m c) fd κ 0 1 d d.rev
      (semAt3_eq c d) ((recvSem_eq c _ (off4_eq c) _).trans (by rw [num_recv])) (amt 1) ((credit_xg _ _).trans amt1) (amt0.symm.trans amt1) rfl (O + owe (tX c) l) W
      (by rw [srcX_set]; exact .rfl)
      (by
        rw [dstX_set]
        refine (Entails.of_eq (pointsTo_congr fun j hj => landX m c (peer c d) _ _ (off6_eq c d) (off5_eq c) _ _ fd j hj)).trans ?_
        show _ ⊢ xgP (peer c d) (stripS (peer (peer c d) d.rev)) (xg m (peer c d))
        rw [peer_peer_rev]))
    isplitr; · iexact HR
    isplitl [Hs]; · rw [srcX_set]; iexact Hs
    isplitl [Hdst]; · rw [dstX_set]; iexact Hdst
    isplitl [HO]; · iexact HO
    isplitl [Ht1]; · iexact Ht1
    isplitl [Hr1]; · iexact Hr1
    isplitl [Ht2]; · iexact Ht2
    isplitl [Hr2]; · iexact Hr2
    iintro ⟨Hc, HO⟩
    iapply ih
    isplitr; · iexact HR
    isplitl [Hl]; · iexact Hl
    isplitl [HO]; · iexact HO
    iintro ⟨Hcs, HO⟩
    iapply Hk
    isplitr [HO]
    · isplitl [Hc]; · iexact Hc
      iexact Hcs
    iexact HO

theorem wp_waitSends (κ : GSem nD τ sig → ℕ) (i : grid0.Coords) (c : Dev nD) (h : k0_cond8 i = 1#1) (l : List (Fin 31)) (Q : PUnit → sProp 𝕄) :
    iprop(recs m κ ∗ levAts L lv ∗ bigSepL l (fun d => iprop(cred (tallyAt (cellAt c 0 d) () (amt 0)) ∗ atPos (ER F) (cellAt c 0 d) 0 ∅ 0)) ∗ (∃ W, owes (c : Thread nD τ) (oweM c) W)
        ∗ ((bigSepL l (fun d => iprop(atPos (ER F) (cellAt c 0 d) 1 ∅ 0 ∗ xsP c (rowS (peer c d)) (xOf m c))) ∗ ∃ W, owes (c : Thread nD τ) (oweM c) W) -∗ Q ⟨⟩))
      ⊢ wp frame (wpE (defs₀ (F := F)) 𝒱₀ c none) Set.univ (waitSends (F := F) i c h l) Q := by
  induction l generalizing Q with
  | nil =>
    rw [waitSends, Prog.pure_eq_ret, wp_ret]
    iintro ⟨-, -, He, HO, Hk⟩
    imodintro
    iapply Hk
    isplitl [He]; · iexact He
    iexact HO
  | cons d l ih =>
    rw [waitSends, waitSend, bigSepL_cons', bigSepL_cons']
    simp only [Prog.lift, Prog.bind_op, Prog.bind_ret]
    iintro ⟨#HR, #Hlev, ⟨⟨Hc, Hat⟩, Hl⟩, ⟨%W, HO⟩, Hk⟩
    iapply (wait_rule m
      (src := xgM.slice (Rect.unit (s := S128x4096) (k0_off18 c) S128x128.size (k0_off18_inb i c h)) (fun _ => rfl))
      (dst := xsM.slice (Rect.unit (s := S4096x128) (k0_off17 c (BitVec.ofNat 32 (1 + d.val))) S128x128.size (k0_off17_inb i c h d)) (fun _ => rfl))
      κ 0 d (semAt3_eq c d) ((credit_xs _ _).trans amt0) (oweM c) W (mayWait_send c d))
    isplitr; · iexact HR
    isplitr; · iexact Hlev
    isplitl [Hc]; · iexact Hc
    isplitl [HO]; · iexact HO
    isplitl [Hat]; · iexact Hat
    iintro ⟨%W', HO, Hat, Hp⟩
    iapply ih
    isplitr; · iexact HR
    isplitr; · iexact Hlev
    isplitl [Hl]; · iexact Hl
    isplitl [HO]; · iexists W'; iexact HO
    iintro ⟨Hcs, HO⟩
    iapply Hk
    isplitr [HO]
    · isplitl [Hat Hp]
      · isplitl [Hat]; · iexact Hat
        rw [← pay0]; iexact Hp
      iexact Hcs
    iexact HO

/-! ## The maxima -/

theorem slotM_set (d : Fin 31) : (slotM d).view.set = slotS d.succ :=
  (View.set_reshape _ _).trans ((View.set_slice_whole _ _).trans (slotS_of d.succ _ (by rw [Nat.add_comm]; rfl) _))
theorem slot0_set : slot0.view.set = slotS 0 :=
  (View.set_reshape _ _).trans ((View.set_slice_whole _ _).trans (slotS_of 0 _ rfl _))

/-- The own slot and another, index by index: the same place of each. -/
theorem slot_emb (d : Fin 31) (j : S8x128.Idx) : ∃ e : S1x8x128.Idx,
      slot0.view.emb j = (Rect.unit (s := S32x8x128) ![0, 0, 0] S1x8x128.size inb_S32x8x128_S1x8x128_0_0_0).emb e
      ∧ (slotM d).view.emb j = (Rect.unit (s := S32x8x128) ![1 + d.val, 0, 0] S1x8x128.size (inbSlot d)).emb e := ⟨_, rfl, rfl⟩

/-- A maximum landed in its slot. -/
theorem landM (c : Dev nD) (d : Fin 31) (fd : Vec F S32x8x128 .f32) (i : S32x8x128.Idx) (hi : i ∈ slotS d.succ) :
    ((slotM d).view.write (Elt F) fd (slot0.view.read (Elt F) (am m c)) Finset.univ : Vec F S32x8x128 .f32) i = am m (peer c d) i := by
  rw [← slotM_set d] at hi
  obtain ⟨j, -, rfl⟩ := Finset.mem_map.mp hi
  refine (View.write_emb_of_mem (Val := Elt F) (v := (slotM d).view) fd (slot0.view.read (Elt F) (am m c)) (Finset.mem_univ j)).trans ?_
  obtain ⟨e, h0, h1⟩ := slot_emb d j
  have e0 : (e 0).val < 1 := (e 0).isLt
  have a0 : (slot0.view.emb j 0).val = 0 + (e 0).val := (congrArg (fun i : S32x8x128.Idx => (i 0).val) h0).trans (ValueKit.rect_emb_unit_val _ _ _ _ _)
  have a1 : (slot0.view.emb j 1).val = 0 + (e 1).val := (congrArg (fun i : S32x8x128.Idx => (i 1).val) h0).trans (ValueKit.rect_emb_unit_val _ _ _ _ _)
  have a2 : (slot0.view.emb j 2).val = 0 + (e 2).val := (congrArg (fun i : S32x8x128.Idx => (i 2).val) h0).trans (ValueKit.rect_emb_unit_val _ _ _ _ _)
  have b0 : ((slotM d).view.emb j 0).val = 1 + d.val + (e 0).val := (congrArg (fun i : S32x8x128.Idx => (i 0).val) h1).trans (ValueKit.rect_emb_unit_val _ _ _ _ _)
  have b1 : ((slotM d).view.emb j 1).val = 0 + (e 1).val := (congrArg (fun i : S32x8x128.Idx => (i 1).val) h1).trans (ValueKit.rect_emb_unit_val _ _ _ _ _)
  have b2 : ((slotM d).view.emb j 2).val = 0 + (e 2).val := (congrArg (fun i : S32x8x128.Idx => (i 2).val) h1).trans (ValueKit.rect_emb_unit_val _ _ _ _ _)
  rw [View.read_apply]
  have h1' : slot0.view.emb j 1 = (slotM d).view.emb j 1 := Fin.ext (a1.trans b1.symm)
  have h2' : slot0.view.emb j 2 = (slotM d).view.emb j 2 := Fin.ext (a2.trans b2.symm)
  unfold am
  rw [h1', h2', a0, b0, show 0 + (e 0).val = 0 from by omega, show 1 + d.val + (e 0).val = 1 + d.val from by omega, srcDev_zero, srcDev_peer, cast_cast, cast_eq]

/-- What the send of the maximum at one distance takes. -/
def maxRes (c : Dev nD) (d : Fin 31) : sProp 𝕄 :=
  iprop(amP c (slotS 0) (Transfers.shareTok fullShare 31 d) (am m c) ∗ (∃ f, amP (peer c d) (slotS d.succ) fullShare f)
    ∗ dutyTok (ER F) (cellAt c 2 d) 0 0 ∗ reached (ER F) (cellAt c 2 d) 0
    ∗ dutyTok (ER F) (cellAt (peer c d) 3 d) 0 0 ∗ reached (ER F) (cellAt (peer c d) 3 d) 0)

theorem wp_sendMs (κ : GSem nD τ sig → ℕ) (c : Dev nD) (l : List (Fin 31)) (O : CellTallies nD τ sig Unit) (W : Waits sig Unit) (Q : PUnit → sProp 𝕄) :
    iprop(recs m κ ∗ bigSepL l (maxRes m c) ∗ owes (c : Thread nD τ) (O + owe (tM c) l) W
        ∗ ((bigSepL l (fun d => cred (tallyAt (cellAt c 2 d) () (amt 2))) ∗ owes (c : Thread nD τ) O W) -∗ Q ⟨⟩))
      ⊢ wp frame (wpE (defs₀ (F := F)) 𝒱₀ c none) Set.univ (sendMs (F := F) c l) Q := by
  induction l generalizing Q with
  | nil =>
    rw [sendMs, Prog.pure_eq_ret, wp_ret, owe, add_zero]
    iintro ⟨-, He, HO, Hk⟩
    imodintro
    iapply Hk
    isplitl [He]; · iexact He
    iexact HO
  | cons d l ih =>
    have e : (⟨maxTab c d, maxTab_lt c d⟩ : Dev nD) = peer c d := Fin.ext (maxTab_eq c d)
    rw [sendMs, sendM, bigSepL_cons', bigSepL_cons', owe, ← add_assoc]
    simp only [Prog.lift, Prog.bind_op, Prog.bind_ret]
    iintro ⟨#HR, ⟨Hd, Hl⟩, HO, Hk⟩
    ihave Hd := (Entails.of_eq (maxRes.eq_1 m c d)) $$ Hd
    icases Hd with ⟨Hs, ⟨%fd, Hdst⟩, Ht1, Hr1, Ht2, Hr2⟩
    iapply (send_rule m (c := c) (peer c d) e.symm (src := slot0) (dst := slotM d) (Transfers.shareTok fullShare 31 d) (am m c) fd κ 2 3 d d
      (semAt5_eq c d) (semAt6_eq (peer c d) d) (amt 3) ((credit_am d).trans amt3) (amt2.symm.trans amt3) rfl (O + owe (tM c) l) W
      (by rw [slot0_set]; exact .rfl)
      (by
        rw [slotM_set]
        exact Entails.of_eq (pointsTo_congr fun j hj => landM m c d fd j hj)))
    isplitr; · iexact HR
    isplitl [Hs]; · rw [slot0_set]; iexact Hs
    isplitl [Hdst]; · rw [slotM_set]; iexact Hdst
    isplitl [HO]; · iexact HO
    isplitl [Ht1]; · iexact Ht1
    isplitl [Hr1]; · iexact Hr1
    isplitl [Ht2]; · iexact Ht2
    isplitl [Hr2]; · iexact Hr2
    iintro ⟨Hc, HO⟩
    iapply ih
    isplitr; · iexact HR
    isplitl [Hl]; · iexact Hl
    isplitl [HO]; · iexact HO
    iintro ⟨Hcs, HO⟩
    iapply Hk
    isplitr [HO]
    · isplitl [Hc]; · iexact Hc
      iexact Hcs
    iexact HO

theorem mayWait_none (c : Dev nD) (sm : SemLoc sig) : (levAts L lv : sProp 𝕄) ⊢ MayWait (c : Thread nD τ) sm () 0 :=
  mayWait c sm _ 0 le_rfl fun _ _ h => absurd h (Nat.lt_irrefl 0)

theorem wp_waitMs (κ : GSem nD τ sig → ℕ) (c : Dev nD) (l : List (Fin 31)) (Q : PUnit → sProp 𝕄) :
    iprop(recs m κ ∗ levAts L lv
        ∗ bigSepL l (fun d => iprop((cred (tallyAt (cellAt c 2 d) () (amt 2)) ∗ atPos (ER F) (cellAt c 2 d) 0 ∅ 0) ∗ cred (tallyAt (cellAt c 3 d) () (amt 3)) ∗ atPos (ER F) (cellAt c 3 d) 0 ∅ 0))
        ∗ (∃ W, owes (c : Thread nD τ) 0 W)
        ∗ ((bigSepL l (fun d => iprop((atPos (ER F) (cellAt c 2 d) 1 ∅ 0 ∗ dmaPay m c 2 d) ∗ atPos (ER F) (cellAt c 3 d) 1 ∅ 0 ∗ dmaPay m c 3 d))
            ∗ ∃ W, owes (c : Thread nD τ) 0 W) -∗ Q ⟨⟩))
      ⊢ wp frame (wpE (defs₀ (F := F)) 𝒱₀ c none) Set.univ (waitMs (F := F) l) Q := by
  induction l generalizing Q with
  | nil =>
    rw [waitMs, Prog.pure_eq_ret, wp_ret]
    iintro ⟨-, -, He, HO, Hk⟩
    imodintro
    iapply Hk
    isplitl [He]; · iexact He
    iexact HO
  | cons d l ih =>
    rw [waitMs, waitM, bigSepL_cons', bigSepL_cons']
    simp only [Prog.lift, Prog.bind_op, Prog.bind_ret]
    iintro ⟨#HR, #Hlev, ⟨⟨⟨Hc, Hat⟩, Hc', Hat'⟩, Hl⟩, ⟨%W, HO⟩, Hk⟩
    iapply (wait_rule m (src := slotM d) (dst := slot0) κ 2 d (semAt5_eq c d) amt2 0 W (mayWait_none c _))
    isplitr; · iexact HR
    isplitr; · iexact Hlev
    isplitl [Hc]; · iexact Hc
    isplitl [HO]; · iexact HO
    isplitl [Hat]; · iexact Hat
    iintro ⟨%W', HO, Hat, Hp⟩
    iapply (wait_rule m (src := slot0) (dst := slotM d) κ 3 d (semAt6_eq c d) ((credit_am d).trans amt3) 0 W' (mayWait_none c _))
    isplitr; · iexact HR
    isplitr; · iexact Hlev
    isplitl [Hc']; · iexact Hc'
    isplitl [HO]; · iexact HO
    isplitl [Hat']; · iexact Hat'
    iintro ⟨%W'', HO, Hat', Hp'⟩
    iapply ih
    isplitr; · iexact HR
    isplitr; · iexact Hlev
    isplitl [Hl]; · iexact Hl
    isplitl [HO]; · iexists W''; iexact HO
    iintro ⟨Hcs, HO⟩
    iapply Hk
    isplitr [HO]
    · isplitl [Hat Hp Hat' Hp']
      · isplitl [Hat Hp]
        · isplitl [Hat]; · iexact Hat
          iexact Hp
        isplitl [Hat']; · iexact Hat'
        iexact Hp'
      iexact Hcs
    iexact HO

/-! ## The strips of a group -/

/-- The cell of the landing from `p`. -/
abbrev recvCell (c p : Dev nD) : GSem nD τ sig := ((c : Thread nD τ), osem (1, p))

/-- What a wait for the strip of `p` takes (for the device's own strip, the strip), -/
def todo (c p : Dev nD) : sProp 𝕄 :=
  if p = c then xgP c (stripS c) (xg m c) else iprop(cred (tallyAt (recvCell c p) () (amt 1)) ∗ atPos (ER F) (recvCell c p) 0 ∅ 0)
/-- the position it leaves -/
def posP (c p : Dev nD) : sProp 𝕄 := if p = c then iprop(emp) else atPos (ER F) (recvCell c p) 1 ∅ 0
/-- and all it leaves. -/
def done (c p : Dev nD) : sProp 𝕄 := iprop(xgP c (stripS p) (xg m c) ∗ posP (F := F) c p)

theorem wp_waitRecv (κ : GSem nD τ sig → ℕ) (c p : Dev nD) (hp : p ≠ c) (o : Fin 1 → Nat) (o' : Fin 2 → Nat) (ho : ∀ a, o a + S1.size a ≤ S32.size a)
    (ho' : ∀ a, o' a + S128x128.size a ≤ S128x4096.size a) (hw : (Rect.unit (s := S128x4096) o' S128x128.size ho').WholeWords (EltTy.packing .bf16))
    (he : o = ![p.val]) (Q : PUnit → sProp 𝕄) :
    iprop(recs m κ ∗ levAts L lv ∗ todo m c p ∗ (∃ W, owes (c : Thread nD τ) (oweM c) W) ∗ ((done m c p ∗ ∃ W, owes (c : Thread nD τ) (oweM c) W) -∗ Q ⟨⟩))
      ⊢ wp frame (wpE (defs₀ (F := F)) 𝒱₀ c none) Set.univ (waitRecv (F := F) o o' ho ho' hw) Q := by
  obtain ⟨d, rfl⟩ := peer_surj c p hp
  unfold todo done posP
  rw [if_neg hp, if_neg hp, waitRecv]
  simp only [Prog.lift, Prog.bind_op, Prog.bind_ret]
  iintro ⟨#HR, #Hlev, ⟨Hc, Hat⟩, ⟨%W, HO⟩, Hk⟩
  iapply (wait_rule m (src := xsM.slice (Rect.unit (s := S4096x128) ![0, 0] S128x128.size inb_S4096x128_S128x128_0_0) (fun _ => rfl))
    (dst := xgM.slice (Rect.unit (s := S128x4096) o' S128x128.size ho') (fun _ => rfl)) κ 1 d (recvSem_eq (peer c d) o he ho) ((credit_xg _ _).trans amt1) (oweM c) W (mayWait_recv c d))
  isplitr; · iexact HR
  isplitr; · iexact Hlev
  isplitl [Hc]; · iexact Hc
  isplitl [HO]; · iexact HO
  isplitl [Hat]; · iexact Hat
  iintro ⟨%W', HO, Hat, Hp⟩
  rw [wp_ret]
  imodintro
  iapply Hk
  isplitr [HO]
  · isplitl [Hp]; · rw [← pay1]; iexact Hp
    iexact Hat
  iexists W'; iexact HO

theorem wp_onRecv (κ : GSem nD τ sig → ℕ) (c p : Dev nD) (P : Prop) [Decidable P] (hP : P ↔ p ≠ c) (o : Fin 1 → Nat) (o' : Fin 2 → Nat) (ho : P → ∀ a, o a + S1.size a ≤ S32.size a)
    (ho' : P → ∀ a, o' a + S128x128.size a ≤ S128x4096.size a) (hw : ∀ h : P, (Rect.unit (s := S128x4096) o' S128x128.size (ho' h)).WholeWords (EltTy.packing .bf16))
    (he : o = ![p.val]) (Q : PUnit → sProp 𝕄) :
    iprop(recs m κ ∗ levAts L lv ∗ todo m c p ∗ (∃ W, owes (c : Thread nD τ) (oweM c) W) ∗ ((done m c p ∗ ∃ W, owes (c : Thread nD τ) (oweM c) W) -∗ Q ⟨⟩))
      ⊢ wp frame (wpE (defs₀ (F := F)) 𝒱₀ c none) Set.univ (onIf P fun h => waitRecv (F := F) o o' (ho h) (ho' h) (hw h)) Q := by
  unfold onIf
  by_cases h : P
  · rw [dif_pos h]
    exact wp_waitRecv m κ c p (hP.mp h) o o' _ _ _ he Q
  · rw [dif_neg h, Prog.pure_eq_ret, wp_ret]
    obtain rfl : p = c := by by_contra hp; exact h (hP.mpr hp)
    unfold todo done posP
    rw [if_pos rfl, if_pos rfl]
    iintro ⟨-, -, Ht, HO, Hk⟩
    imodintro
    iapply Hk
    isplitr [HO]
    · isplitl [Ht]; · iexact Ht
      iempintro
    iexact HO

theorem fin4 (Φ : Fin 4 → sProp 𝕄) : bigSep Finset.univ Φ = iprop(Φ 0 ∗ Φ 1 ∗ Φ 2 ∗ Φ 3) :=
  (bigSep_univ_eq_bigSepL ([0, 1, 2, 3] : List (Fin 4)) (by decide) (by decide) Φ).trans (by rw [bigSepL_cons', bigSepL_cons', bigSepL_cons', bigSepL_singleton])

theorem wp_waits (κ : GSem nD τ sig → ℕ) (c : Dev nD) (g : Fin 8) (hw : k0_chk1 c (gW g)) (Q : PUnit → sProp 𝕄) :
    iprop(recs m κ ∗ levAts L lv ∗ (bigSep Finset.univ fun j : Fin 4 => todo m c (member g j)) ∗ (∃ W, owes (c : Thread nD τ) (oweM c) W)
        ∗ (((bigSep Finset.univ fun j : Fin 4 => done m c (member g j)) ∗ ∃ W, owes (c : Thread nD τ) (oweM c) W) -∗ Q ⟨⟩))
      ⊢ wp frame (wpE (defs₀ (F := F)) 𝒱₀ c none) Set.univ (waits (F := F) c (gW g) hw) Q := by
  rw [fin4, fin4, waits]
  simp only [wp_bind]
  iintro ⟨#HR, #Hlev, ⟨H0, H1, H2, H3⟩, HO, Hk⟩
  iapply (wp_onRecv m κ c (member g 0) _ (cond2_iff c g) (k0_off8 (gW g)) (k0_off9 (gW g)) _ _ _ (off8_eq g))
  isplitr; · iexact HR
  isplitr; · iexact Hlev
  isplitl [H0]; · iexact H0
  isplitl [HO]; · iexact HO
  iintro ⟨H0, HO⟩
  iapply (wp_onRecv m κ c (member g 1) _ (cond3_iff c g) (k0_off10 (gW g)) (k0_off11 (gW g)) _ _ _ (off10_eq g))
  isplitr; · iexact HR
  isplitr; · iexact Hlev
  isplitl [H1]; · iexact H1
  isplitl [HO]; · iexact HO
  iintro ⟨H1, HO⟩
  iapply (wp_onRecv m κ c (member g 2) _ (cond4_iff c g) (k0_off12 (gW g)) (k0_off13 (gW g)) _ _ _ (off12_eq g))
  isplitr; · iexact HR
  isplitr; · iexact Hlev
  isplitl [H2]; · iexact H2
  isplitl [HO]; · iexact HO
  iintro ⟨H2, HO⟩
  iapply (wp_onRecv m κ c (member g 3) _ (cond5_iff c g) (k0_off14 (gW g)) (k0_off15 (gW g)) _ _ _ (off14_eq g))
  isplitr; · iexact HR
  isplitr; · iexact Hlev
  isplitl [H3]; · iexact H3
  isplitl [HO]; · iexact HO
  iintro ⟨H3, HO⟩
  iapply Hk
  isplitr [HO]
  · isplitl [H0]; · iexact H0
    isplitl [H1]; · iexact H1
    isplitl [H2]; · iexact H2
    iexact H3
  iexact HO

/-- A group whose four strips have landed, as columns held together. -/
theorem group_done (c : Dev nD) (g : Fin 8) :
    (bigSep Finset.univ fun j : Fin 4 => done m c (member g j)) = iprop(xgP c (groupS g) (xg m c) ∗ bigSep Finset.univ fun j : Fin 4 => posP (F := F) c (member g j)) := by
  unfold done
  rw [bigSep_sep', group_strips]
  exact congrArg (fun P : sProp 𝕄 => iprop(P ∗ bigSep Finset.univ fun j : Fin 4 => posP (F := F) c (member g j)))
    (pointsTo_biUnion (ℓ := (c : Thread nD τ).loc cc0_scratch1) Finset.univ (fun j : Fin 4 => stripS (member g j)) fun j _ j' _ h => strips_disj fun e => h (by
      have e : 4 * g.val + j.val = 4 * g.val + j'.val := congrArg Fin.val e
      exact Fin.ext (by omega))).symm

end Cert.KernelIdeal.Own

end
-- ==== Proof.Access.lean ====
module

public import proofs.«01_k».proof.Proof.Steps

/-! Loads and stores of the body: whole staging buffers, a group of columns, and the stores that fill the scratch. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem zero2 : (![0, 0] : Fin 2 → Nat) = fun _ => 0 := by decide
theorem zero3 : (![0, 0, 0] : Fin 3 → Nat) = fun _ => 0 := by decide

section Whole
variable {c : Dev nD} {cs : CoreSpace} {s : Shape} {e : EltTy} {M : Memref sig .tc cs s e} {off : Fin s.rank → Nat} {h : ∀ a, off a + s.size a ≤ s.size a}

theorem access_emb (ho : off = fun _ => 0) (j : s.Idx) : (M.access (Rect.unit off s.size h)).emb j = M.view.emb j := by
  show M.view.emb ((Rect.unit off s.size h).emb j) = M.view.emb j
  congr 1
  funext a
  refine Fin.ext ((ValueKit.rect_emb_unit_val _ _ _ _ _).trans ?_)
  have h0 : off a = 0 := congrFun ho a
  omega

theorem access_read (ho : off = fun _ => 0) (f : M.view.ty.Contents (Elt F)) : ((M.access (Rect.unit off s.size h)).read (Elt F) f : s.Idx → Elt F e) = M.view.read (Elt F) f := by
  funext j
  rw [View.read_apply, View.read_apply]
  congr 2
  exact access_emb ho j

theorem access_set : (M.access (Rect.unit off s.size h)).set ⊆ M.view.set := by
  intro i hi
  obtain ⟨j, -, rfl⟩ := Finset.mem_map.mp hi
  exact Finset.mem_map.mpr ⟨(Rect.unit off s.size h).emb j, Finset.mem_univ _, rfl⟩

/-- A load of the whole of a memref. -/
theorem load_all {hl : M.view.LoadsAt (Rect.unit off s.size h).toLoadRect} (ho : off = fun _ => 0) (q : PosShare TreeShare) (X : s.Idx → Elt F e)
    {α : Type} {k : (s.Idx → Elt F e) → KProg F α} {Q : α → sProp 𝕄} :
    iprop(owns (c : Thread nD τ) M q X ∗ (owns (c : Thread nD τ) M q X -∗ wp frame (wpE (defs₀ (F := F)) 𝒱₀ c none) Set.univ (k X) Q))
      ⊢ wp frame (wpE (defs₀ (F := F)) 𝒱₀ c none) Set.univ (.op (.load M (Rect.unit off s.size h).toLoadRect hl) k) Q := by
  unfold owns
  iintro ⟨⟨%f, %hf, H⟩, Hk⟩
  iapply (wp_load_rect (c := (c : Thread nD τ)) 𝒱₀ none Set.univ (m := M) (r := Rect.unit off s.size h) (S := M.view.set) (q := q) (f := f) access_set) $$ [H]
  · iexact H
  iintro H
  have e : ((M.access (Rect.unit off s.size h)).read (Elt F) f : s.Idx → Elt F e) = X := (access_read ho f).trans hf
  ihave Hk := Hk $$ [H]
  · iexists f
    isplitr; · ipureintro; exact hf
    iexact H
  have e' : k ((M.access (Rect.unit off s.size h)).read (Elt F) f) = k X := congrArg k e
  rw [e']
  iexact Hk

/-- A store of the whole of a memref. -/
theorem store_all {w : s.Idx → Elt F e} {hx : (M.access (Rect.unit off s.size h)).Stores Finset.univ} {hm : Finset.univ = Finset.univ ∨ ∀ a, (Rect.unit off s.size h).stride a = 1}
    (ho : off = fun _ => 0) (X : s.Idx → Elt F e) {k : PUnit → KProg F PUnit} {Q : PUnit → sProp 𝕄} :
    iprop(owns (c : Thread nD τ) M fullShare X ∗ (owns (c : Thread nD τ) M fullShare w -∗ wp frame (wpE (defs₀ (F := F)) 𝒱₀ c none) Set.univ (k ⟨⟩) Q))
      ⊢ wp frame (wpE (defs₀ (F := F)) 𝒱₀ c none) Set.univ (.op (.store M (Rect.unit off s.size h) w Finset.univ hx hm) k) Q := by
  unfold owns
  iintro ⟨⟨%f, -, H⟩, Hk⟩
  iapply (wp_store (c := (c : Thread nD τ)) 𝒱₀ none Set.univ (m := M) (r := Rect.unit off s.size h) (w := w) (Mk := Finset.univ) (hx := hx) (hm := hm) (S := M.view.set) (f := f)
    access_set) $$ [H]
  · iexact H
  iintro H
  iapply Hk
  iexists ((M.access (Rect.unit off s.size h)).write (Elt F) f w Finset.univ)
  isplitr [H]
  · ipureintro
    rw [← access_read (h := h) ho]
    exact View.read_write_univ _ _
  iexact H
end Whole

variable (m : (ℓ : Loc nD τ sig) → Buf (Elt F) ℓ)

/-! ## The scratch -/

theorem store_xs (f w : Vec F S4096x128 .bf16) :
    ((xsM.access (Rect.unit (s := S4096x128) ![0, 0] S4096x128.size inb_S4096x128_S4096x128_0_0)).write (Elt F) f w Finset.univ : Vec F S4096x128 .bf16) = w :=
  Memref.write_access_unit_zero_univ (Elt F) cc0_scratch0 zero2 inb_S4096x128_S4096x128_0_0 f w

theorem pay4_eq (v : Vec F S4096x128 .bf16) : k0_pay4 v = v := by
  exact (shapeCast_self _ _).trans (shapeCast_self v _)
theorem pay5_eq (v : Vec F S128x128 .bf16) : k0_pay5 v = v := by
  exact shapeCast_self v _

theorem store_own (i : grid0.Coords) (c : Dev nD) (h : k0_cond1 i = 1#1) (f : Vec F S128x4096 .bf16) (j : S128x4096.Idx) (hj : j ∈ stripS c) :
    ((xgM.access (Rect.unit (s := S128x4096) (k0_off3 c) S128x128.size (k0_off3_inb i c h))).write (Elt F) f
      (k0_pay5 ((xsM.access (Rect.unit (s := S4096x128) (k0_off2 c) S128x128.size (k0_off2_inb i c h))).read (Elt F) (xOf m c))) Finset.univ : Vec F S128x4096 .bf16) j
      = xg m c j := by
  rw [pay5_eq]
  exact landX m c c _ _ (off2_eq c) (off3_eq c) _ _ f j hj

theorem store_max (c : Dev nD) (f : Vec F S32x8x128 .f32) (j : S32x8x128.Idx) (hj : j ∈ slotS 0) :
    ((amM.access (Rect.unit (s := S32x8x128) ![0, 0, 0] S1x8x128.size inb_S32x8x128_S1x8x128_0_0_0)).write (Elt F) f (mx m c) Finset.univ : Vec F S32x8x128 .f32) j
      = am m c j := by
  rw [← slotS_of 0 ![0, 0, 0] rfl inb_S32x8x128_S1x8x128_0_0_0, ← Rect.map_emb_univ, Finset.mem_map] at hj
  obtain ⟨e, -, rfl⟩ := hj
  refine (View.write_emb_of_mem (Val := Elt F) (v := amM.access (Rect.unit (s := S32x8x128) ![0, 0, 0] S1x8x128.size inb_S32x8x128_S1x8x128_0_0_0)) f (mx m c) (Finset.mem_univ e)).trans ?_
  have e0 : (e 0).val < 1 := (e 0).isLt
  have a0 : ((Rect.unit (s := S32x8x128) ![0, 0, 0] S1x8x128.size inb_S32x8x128_S1x8x128_0_0_0).emb e 0).val = 0 + (e 0).val := ValueKit.rect_emb_unit_val _ _ _ _ _
  have a1 : ((Rect.unit (s := S32x8x128) ![0, 0, 0] S1x8x128.size inb_S32x8x128_S1x8x128_0_0_0).emb e 1).val = 0 + (e 1).val := ValueKit.rect_emb_unit_val _ _ _ _ _
  have a2 : ((Rect.unit (s := S32x8x128) ![0, 0, 0] S1x8x128.size inb_S32x8x128_S1x8x128_0_0_0).emb e 2).val = 0 + (e 2).val := ValueKit.rect_emb_unit_val _ _ _ _ _
  unfold am
  rw [a0, show 0 + (e 0).val = 0 from by omega, srcDev_zero, cast_eq]
  congr 1
  funext a
  refine Fin.ext ?_
  fin_cases a
  · show (e 0).val = 0; omega
  · exact (a1.trans (Nat.zero_add _)).symm
  · exact (a2.trans (Nat.zero_add _)).symm

theorem load_group (c : Dev nD) (t : ℕ) (o : Fin 2 → Nat) (ho : o = ![0, 512 * (gOf c t).val]) (h : ∀ a, o a + S128x512.size a ≤ S128x4096.size a) :
    ((xgM.access (Rect.unit (s := S128x4096) o S128x512.size h)).read (Elt F) (xg m c) : Vec F S128x512 .bf16) = xblk m c t := by
  subst ho
  funext e
  rw [View.read_apply, cast_eq]
  have a0 : ((Rect.unit (s := S128x4096) ![0, 512 * (gOf c t).val] S128x512.size h).emb e 0).val = 0 + (e 0).val := ValueKit.rect_emb_unit_val _ _ _ _ _
  have a1 : ((Rect.unit (s := S128x4096) ![0, 512 * (gOf c t).val] S128x512.size h).emb e 1).val = 512 * (gOf c t).val + (e 1).val := ValueKit.rect_emb_unit_val _ _ _ _ _
  show xg m c _ = xg m c _
  congr 1
  funext a
  refine Fin.ext ?_
  fin_cases a
  · exact a0.trans (Nat.zero_add _)
  · exact a1

theorem load_am (f : Vec F S32x8x128 .f32) :
    ((amM.access (Rect.unit (s := S32x8x128) ![0, 0, 0] S32x8x128.size inb_S32x8x128_S32x8x128_0_0_0)).read (Elt F) f : Vec F S32x8x128 .f32) = f :=
  Memref.read_access_unit_zero (Elt F) cc0_scratch2 zero3 inb_S32x8x128_S32x8x128_0_0_0 f

/-! ## The table -/

/-- The table of device `c`: the group it multiplies at each grid point. -/
def ordC (c : Dev nD) : Vec F S8 .i32 := fun i => gW (gOf c (i 0).val)

theorem off7_eq : ∀ i : grid0.Coords, k0_off7 i = ![(i 0).val] := by decide +kernel

theorem load_ord (c : Dev nD) (i : grid0.Coords) (t : ℕ) (hi : (i 0).val = t) (j : S1.Idx) :
    (((Memref.whole main_v10).access (Rect.unit (s := S8) (k0_off7 i) S1.size (k0_off7_inb i))).read (Elt F) (ordC (F := F) c) j : Elt F .i32) = gW (gOf c t) := by
  rw [View.read_apply, cast_eq]
  have a0 : ((Rect.unit (s := S8) (k0_off7 i) S1.size (k0_off7_inb i)).emb j 0).val = k0_off7 i 0 + (j 0).val := ValueKit.rect_emb_unit_val _ _ _ _ _
  have j0 : (j 0).val < 1 := (j 0).isLt
  have a1 : ((Rect.unit (s := S8) (k0_off7 i) S1.size (k0_off7_inb i)).emb j 0).val = t := by
    rw [a0, off7_eq i]
    show (i 0).val + (j 0).val = t
    omega
  show gW (gOf c ((Rect.unit (s := S8) (k0_off7 i) S1.size (k0_off7_inb i)).emb j 0).val) = _
  rw [a1]

theorem chk1 : ∀ (c : Dev nD) (g : Fin 8), k0_chk1 c (gW g) := by
  decide +kernel

end Cert.KernelIdeal.Own

end
-- ==== Proof.Run.lean ====
module

public import proofs.«01_k».proof.Proof.Access

/-! The runs of the three stretches of the body at a symbolic device: the first grid point's prologue, the product of one
group of columns, and the last grid point's epilogue. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Families over the devices, the slots and the distances -/

theorem list_dists (Φ : Fin 31 → sProp 𝕄) : bigSep Finset.univ Φ = bigSepL dists Φ :=
  bigSep_univ_eq_bigSepL dists (by decide) (by decide) Φ
/-- Over all devices: the device itself and its peers. -/
theorem around (c : Dev nD) (Φ : Dev nD → sProp 𝕄) : bigSep Finset.univ Φ = iprop(Φ c ∗ bigSepL dists fun d => Φ (peer c d)) := by
  rw [bigSep_univ_eq_bigSepL (c :: dists.map (peer c)) (by revert c; decide +kernel) (by revert c; decide +kernel) Φ, bigSepL_cons', bigSepL_map]
/-- Over all slots: the own slot and the others. -/
theorem around_slots (Φ : Fin 32 → sProp 𝕄) : bigSep Finset.univ Φ = iprop(Φ 0 ∗ bigSepL dists fun d => Φ d.succ) := by
  rw [bigSep_univ_eq_bigSepL (0 :: dists.map Fin.succ) (by decide +kernel) (by decide +kernel) Φ, bigSepL_cons', bigSepL_map]
theorem sepL (l : List (Fin 31)) (Φ Ψ : Fin 31 → sProp 𝕄) : (bigSepL l fun d => iprop(Φ d ∗ Ψ d)) = iprop(bigSepL l Φ ∗ bigSepL l Ψ) := by
  have h : ∀ l : List (Fin 31), (bigSepL l fun d => iprop(Φ d ∗ Ψ d)) ⊣⊢ iprop(bigSepL l Φ ∗ bigSepL l Ψ) := by
    intro l
    induction l with
    | nil => exact ⟨BI.sep_emp.right, BI.sep_emp.left⟩
    | cons d l ih =>
      rw [bigSepL_cons', bigSepL_cons', bigSepL_cons']
      constructor
      · iintro ⟨⟨H1, H2⟩, Hl⟩
        ihave Hl := ih.1 $$ Hl
        icases Hl with ⟨Hl1, Hl2⟩
        isplitl [H1 Hl1]
        · isplitl [H1]; · iexact H1
          iexact Hl1
        isplitl [H2]; · iexact H2
        iexact Hl2
      · iintro ⟨⟨H1, Hl1⟩, H2, Hl2⟩
        isplitl [H1 H2]
        · isplitl [H1]; · iexact H1
          iexact H2
        iapply ih.2
        isplitl [Hl1]; · iexact Hl1
        iexact Hl2
  exact Entails.antisymm (h l).1 (h l).2

variable (m : (ℓ : Loc nD τ sig) → Buf (Elt F) ℓ)

/-! ## The prologue -/

/-- What the peers' entering handed over and the row blocks did not use: the peers' slots. -/
def slotRes (c : Dev nD) (d : Fin 31) : sProp 𝕄 :=
  iprop((∃ f, amP (peer c d) (slotS d.succ) fullShare f) ∗ reached (ER F) (cellAt (peer c d) 3 d) 0)
/-- What the send of a row block takes beside the rows and what the peer handed over. -/
def sendTok (c : Dev nD) (d : Fin 31) : sProp 𝕄 :=
  iprop(dutyTok (ER F) (cellAt c 0 d) 0 0 ∗ reached (ER F) (cellAt c 0 d) 0 ∗ dutyTok (ER F) (cellAt (peer c d) 1 d.rev) 0 0)

theorem join_send (c : Dev nD) (d : Fin 31) :
    iprop(xsP c (rowS (peer c d)) (xOf m c) ∗ sendTok (F := F) c d ∗ barPay (F := F) c d) ⊢ iprop(sendRes m c d ∗ slotRes (F := F) c d) := by
  unfold sendTok barPay sendRes slotRes
  iintro ⟨Hx, ⟨H1, H2, H3⟩, Hg, Hs, H4, H5⟩
  isplitr [Hs H5]
  · isplitl [Hx]; · iexact Hx
    isplitl [Hg]; · iexact Hg
    isplitl [H1]; · iexact H1
    isplitl [H2]; · iexact H2
    isplitl [H3]; · iexact H3
    iexact H4
  isplitl [Hs]; · iexact Hs
  iexact H5

theorem xs_rows (c : Dev nD) (f : Vec F S4096x128 .bf16) : xsP c Finset.univ f = iprop(xsP c (rowS c) f ∗ bigSepL dists fun d => xsP c (rowS (peer c d)) f) := by
  have e := pointsTo_biUnion (ℓ := (c : Thread nD τ).loc cc0_scratch0) (q := fullShare) (f := f) (Ix := Unit) (Val := Elt F) (Name := ℕ) (U := UU) (Lvl := ℕ) Finset.univ rowS
    fun p _ p' _ h => rows_disj h
  rw [← rows_univ] at e
  exact e.trans (around c _)

theorem wp_prologue (κ : GSem nD τ sig → ℕ) (i : grid0.Coords) (c : Dev nD) (h : k0_cond1 i = 1#1) (arg2 : Memref sig .tc .vmem S4096x128 .bf16)
    (Q : PUnit → sProp 𝕄) :
    iprop(recs m κ ∗ levAts L lv ∗ bigSepL dists (sigRes (F := F) c) ∗ (∃ f, xgP c (stripS c) f) ∗ (∃ f, xsP c Finset.univ f) ∗ (∃ W, owes (c : Thread nD τ) (O₀ c) W)
        ∗ cred (tallyAt (barCell c) () 31) ∗ atPos (ER F) (barCell c) 0 ∅ 0 ∗ owns (c : Thread nD τ) arg2 fullShare (xOf m c)
        ∗ bigSepL dists (sendTok (F := F) c)
        ∗ ((atPos (ER F) (barCell c) 1 ∅ 0 ∗ owns (c : Thread nD τ) arg2 fullShare (xOf m c) ∗ xsP c (rowS c) (xOf m c) ∗ xgP c (stripS c) (xg m c)
            ∗ bigSepL dists (fun d => cred (tallyAt (cellAt c 0 d) () (amt 0))) ∗ bigSepL dists (slotRes (F := F) c)
            ∗ ∃ W, owes (c : Thread nD τ) (oweM c) W) -∗ Q ⟨⟩))
      ⊢ wp frame (wpE (defs₀ (F := F)) 𝒱₀ c none) Set.univ (prologue (F := F) arg2 i c h) Q := by
  rw [prologue]
  simp (config := { proj := false }) only [wp_bind]
  iintro ⟨#HR, #Hlev, Hsig, ⟨%fg, Hg⟩, ⟨%fx, Hx⟩, ⟨%W, HO⟩, Hc, Hat, Hx2, Hst, Hk⟩
  iapply (wp_signals m κ c dists (oweXM c dists) W)
  isplitr; · iexact HR
  isplitl [Hsig]; · iexact Hsig
  isplitl [HO]; · unfold O₀; iexact HO
  iintro HO
  simp (config := { proj := false }) only [semWaitWord, Prog.lift]
  iapply (Rounds.wp_wait_rest_token 𝒱₀ (ER F) (Rd m) (c : Thread nD τ) none (κ := κ (barCell c)) (sm := .reg barSem) (k' := 31)
      (wpE_semWait_eq 𝒱₀ (c : Thread nD τ) none Set.univ) (Set.mem_univ _) () (O := oweXM c dists) (W := W) (R := 0) (m := 0) (T := ∅)
      (by rw [expect_bar])) $$ [Hc HO Hat]
  · isplitr
    · ihave Hb := (recs_bar m κ c) $$ HR
      icases Hb with ⟨#HI, -⟩
      iexact HI
    isplitl [Hc]; · iexact Hc
    isplitl [HO]; · iexact HO
    isplitr; · iapply (mayWait_bar c); iexact Hlev
    iexact Hat
  iintro ⟨HO, Hat, -, Hpay⟩
  ihave Hpay := (Entails.of_eq ((rest_bar m c).trans (list_dists _))) $$ Hpay
  rw [wp_ret]
  imodintro
  iapply (load_all (c := c) (M := arg2) zero2 fullShare (xOf m c))
  isplitl [Hx2]; · iexact Hx2
  iintro Hx2
  rw [wp_ret]
  imodintro
  iapply (wp_load_rect (c := (c : Thread nD τ)) 𝒱₀ none Set.univ (m := xsM) (r := Rect.unit (s := S4096x128) ![0, 0] S4096x128.size inb_S4096x128_S4096x128_0_0)
    (S := Finset.univ) (q := fullShare) (f := fx) (Finset.subset_univ _)) $$ Hx
  iintro Hx
  rw [wp_ret]
  imodintro
  iapply (wp_store (c := (c : Thread nD τ)) 𝒱₀ none Set.univ (m := xsM) (r := Rect.unit (s := S4096x128) ![0, 0] S4096x128.size inb_S4096x128_S4096x128_0_0)
    (S := Finset.univ) (f := fx) (Finset.subset_univ _)) $$ Hx
  iintro Hx
  rw [store_xs, pay4_eq]
  rw [wp_ret]
  imodintro
  iapply (wp_load_rect (c := (c : Thread nD τ)) 𝒱₀ none Set.univ (m := xsM) (r := Rect.unit (s := S4096x128) (k0_off2 c) S128x128.size (k0_off2_inb i c h))
    (S := Finset.univ) (q := fullShare) (f := xOf m c) (Finset.subset_univ _)) $$ Hx
  iintro Hx
  rw [wp_ret]
  imodintro
  have hset : (xgM.access (Rect.unit (s := S128x4096) (k0_off3 c) S128x128.size (k0_off3_inb i c h))).set = stripS c :=
    (View.set_slice_whole _ _).trans (stripS_of c _ (off3_eq c) _)
  iapply (wp_load_rect (c := (c : Thread nD τ)) 𝒱₀ none Set.univ (m := xgM) (r := Rect.unit (s := S128x4096) (k0_off3 c) S128x128.size (k0_off3_inb i c h))
    (S := stripS c) (q := fullShare) (f := fg) (le_of_eq hset)) $$ Hg
  iintro Hg
  rw [wp_ret]
  imodintro
  iapply (wp_store (c := (c : Thread nD τ)) 𝒱₀ none Set.univ (m := xgM) (r := Rect.unit (s := S128x4096) (k0_off3 c) S128x128.size (k0_off3_inb i c h))
    (S := stripS c) (f := fg) (le_of_eq hset)) $$ Hg
  iintro Hg
  ihave Hg := (Entails.of_eq (pointsTo_congr fun j hj => store_own m i c h fg j hj)) $$ Hg
  rw [wp_ret]
  imodintro
  ihave Hx := (Entails.of_eq (xs_rows c (xOf m c))) $$ Hx
  icases Hx with ⟨Hxc, Hxs⟩
  ihave Hall := (show iprop((bigSepL dists fun d => xsP c (rowS (peer c d)) (xOf m c)) ∗ bigSepL dists (sendTok (F := F) c) ∗ bigSepL dists (barPay (F := F) c))
      ⊢ iprop(bigSepL dists (sendRes m c) ∗ bigSepL dists (slotRes (F := F) c)) by
    rw [← sepL, ← sepL, ← sepL]; exact bigSepL_mono fun d _ => join_send m c d) $$ [Hxs Hst Hpay]
  · isplitl [Hxs]; · iexact Hxs
    isplitl [Hst]; · iexact Hst
    iexact Hpay
  icases Hall with ⟨Hsend, Hslots⟩
  iapply (wp_sends m κ i c h dists (oweM c) _)
  isplitr; · iexact HR
  isplitl [Hsend]; · iexact Hsend
  isplitl [HO]; · iexact HO
  iintro ⟨Hcs, HO⟩
  iapply Hk
  isplitl [Hat]; · iexact Hat
  isplitl [Hx2]; · iexact Hx2
  isplitl [Hxc]; · iexact Hxc
  isplitl [Hg]; · iexact Hg
  isplitl [Hcs]; · iexact Hcs
  isplitl [Hslots]; · iexact Hslots
  iexists _; iexact HO

/-! ## One group -/

/-- The stores at the end of a grid point. -/
def rest (i : grid0.Coords) (c : Dev nD) (arg4 : Memref sig .tc .vmem S128x8192 .f32) (v30 : Vec F S128x512 .bf16) (v31 : Vec F S512x8192 .bf16) : KProg F PUnit := do
  onIf (k0_cond6 i = 1#1) fun _ => storeFirst arg4 v30 v31
  onIf (k0_cond7 i = 1#1) fun _ => storeLater arg4 v30 v31
  onIf (k0_cond8 i = 1#1) fun h => epilogue arg4 i c h

/-- The grid point after its prologue. -/
def point (i : grid0.Coords) (c : Dev nD) (arg3 : Memref sig .tc .vmem S512x8192 .bf16) (arg4 : Memref sig .tc .vmem S128x8192 .f32) : KProg F PUnit := do
  let v7 : Elt F .i32 ← smemLoad (Memref.whole main_v10) (Rect.unit (s := S8) (k0_off7 i) S1.size (k0_off7_inb i)) numel1_S1 rfl
  have hw : k0_chk1 c v7 := (← Prog.lift (TpuEff.assume (k0_chk1 c v7) (k0_chk1.dec c v7))).down
  waits (F := F) c v7 hw
  let v30 : Vec F S128x512 .bf16 ← Prog.lift (.load xgM (Rect.unit (s := S128x4096) (k0_off16 v7) S128x512.size (k0_off16_inb c v7 hw)).toLoadRect (View.loadsAt_vmem h_S128x512))
  let v31 : Vec F S512x8192 .bf16 ← Prog.lift (.load arg3 (Rect.unit (s := S512x8192) ![0, 0] S512x8192.size inb_S512x8192_S512x8192_0_0).toLoadRect (View.loadsAt_vmem h_S512x8192))
  rest i c arg4 v30 v31

theorem body_point (i : grid0.Coords) (arg2 : Memref sig .tc .vmem S4096x128 .bf16) (arg3 : Memref sig .tc .vmem S512x8192 .bf16) (arg4 : Memref sig .tc .vmem S128x8192 .f32) :
    (body i arg2 arg3 arg4 : KProg F PUnit) = (do
      let c : Dev nD ← Prog.lift .deviceId
      onIf (k0_cond1 i = 1#1) fun h => prologue (F := F) arg2 i c h
      point i c arg3 arg4) := rfl

/-- The table of device `c`, in its buffer. -/
abbrev tabP (c : Dev nD) : sProp 𝕄 := ((c : Thread nD τ).loc main_v10) ↦{fullShare} (ordC (F := F) c)

theorem wp_point (κ : GSem nD τ sig → ℕ) (i : grid0.Coords) (c : Dev nD) (t : ℕ) (hi : (i 0).val = t) (arg3 : Memref sig .tc .vmem S512x8192 .bf16)
    (arg4 : Memref sig .tc .vmem S128x8192 .f32) (Q : PUnit → sProp 𝕄) :
    iprop(recs m κ ∗ levAts L lv ∗ tabP (F := F) c ∗ (bigSep Finset.univ fun j : Fin 4 => todo m c (member (gOf c t) j)) ∗ (∃ W, owes (c : Thread nD τ) (oweM c) W)
        ∗ owns (c : Thread nD τ) arg3 fullShare (wblk m c t)
        ∗ ((tabP (F := F) c ∗ (xgP c (groupS (gOf c t)) (xg m c) ∗ bigSep Finset.univ fun j : Fin 4 => posP (F := F) c (member (gOf c t) j))
            ∗ (∃ W, owes (c : Thread nD τ) (oweM c) W) ∗ owns (c : Thread nD τ) arg3 fullShare (wblk m c t))
            -∗ wp frame (wpE (defs₀ (F := F)) 𝒱₀ c none) Set.univ (rest i c arg4 (xblk m c t) (wblk m c t)) Q))
      ⊢ wp frame (wpE (defs₀ (F := F)) 𝒱₀ c none) Set.univ (point (F := F) i c arg3 arg4) Q := by
  rw [point]
  simp (config := { proj := false }) only [wp_bind, smemLoad]
  iintro ⟨#HR, #Hlev, Ht, Htd, HO, Hw, Hk⟩
  iapply (wp_smemLoadElt (c := (c : Thread nD τ)) 𝒱₀ none Set.univ (S := Finset.univ) (q := fullShare) (f := ordC (F := F) c) (Finset.subset_univ _)) $$ [Ht]
  · iexact Ht
  iintro Ht
  rw [load_ord c i t hi, wp_ret]
  imodintro
  simp (config := { proj := false }) only [Prog.lift]
  iapply (wp_assume (c := (c : Thread nD τ)) 𝒱₀ none Set.univ (chk1 c (gOf c t)))
  rw [wp_ret]
  imodintro
  iapply (wp_waits m κ c (gOf c t) _)
  isplitr; · iexact HR
  isplitr; · iexact Hlev
  isplitl [Htd]; · iexact Htd
  isplitl [HO]; · iexact HO
  iintro ⟨Hd, HO⟩
  ihave Hd := (Entails.of_eq (group_done m c (gOf c t))) $$ Hd
  icases Hd with ⟨Hg, Hpos⟩
  have hset : (xgM.access (Rect.unit (s := S128x4096) (k0_off16 (gW (gOf c t))) S128x512.size (k0_off16_inb c (gW (gOf c t)) (chk1 c (gOf c t))))).set = groupS (gOf c t) :=
    (View.set_slice_whole _ _).trans (groupS_of (gOf c t) _ (off16_eq (gOf c t)) _)
  iapply (wp_load_rect (c := (c : Thread nD τ)) 𝒱₀ none Set.univ (m := xgM) (r := Rect.unit (s := S128x4096) (k0_off16 (gW (gOf c t))) S128x512.size (k0_off16_inb c (gW (gOf c t)) (chk1 c (gOf c t))))
    (S := groupS (gOf c t)) (q := fullShare) (f := xg m c) (le_of_eq hset)) $$ Hg
  iintro Hg
  rw [load_group m c t _ (off16_eq (gOf c t)), wp_ret]
  imodintro
  iapply (load_all (c := c) (M := arg3) zero2 fullShare (wblk m c t))
  isplitl [Hw]; · iexact Hw
  iintro Hw
  rw [wp_ret]
  imodintro
  iapply Hk
  isplitl [Ht]; · iexact Ht
  isplitl [Hg Hpos]
  · isplitl [Hg]; · iexact Hg
    iexact Hpos
  isplitl [HO]; · iexact HO
  iexact Hw

/-! ## The epilogue -/

/-- What the exchange of the maxima takes at one distance before it, -/
def maxPre (c : Dev nD) (d : Fin 31) : sProp 𝕄 :=
  iprop(slotRes (F := F) c d ∗ (dutyTok (ER F) (cellAt c 2 d) 0 0 ∗ reached (ER F) (cellAt c 2 d) 0 ∗ dutyTok (ER F) (cellAt (peer c d) 3 d) 0 0))
/-- the positions and the credit of its waits, -/
def maxPos (c : Dev nD) (d : Fin 31) : sProp 𝕄 :=
  iprop(atPos (ER F) (cellAt c 2 d) 0 ∅ 0 ∗ cred (tallyAt (cellAt c 3 d) () (amt 3)) ∗ atPos (ER F) (cellAt c 3 d) 0 ∅ 0)
/-- and the positions it leaves. -/
def maxPost (c : Dev nD) (d : Fin 31) : sProp 𝕄 := iprop(atPos (ER F) (cellAt c 2 d) 1 ∅ 0 ∗ atPos (ER F) (cellAt c 3 d) 1 ∅ 0)

theorem join_max (c : Dev nD) (d : Fin 31) :
    iprop(amP c (slotS 0) (Transfers.shareTok fullShare 31 d) (am m c) ∗ maxPre (F := F) c d) ⊢ maxRes m c d := by
  unfold maxPre slotRes maxRes
  iintro ⟨Ha, ⟨Hs, H1⟩, H2, H3, H4⟩
  isplitl [Ha]; · iexact Ha
  isplitl [Hs]; · iexact Hs
  isplitl [H2]; · iexact H2
  isplitl [H3]; · iexact H3
  isplitl [H4]; · iexact H4
  iexact H1
theorem join_wait (c : Dev nD) (d : Fin 31) :
    iprop(cred (tallyAt (cellAt c 2 d) () (amt 2)) ∗ maxPos (F := F) c d)
      ⊢ iprop((cred (tallyAt (cellAt c 2 d) () (amt 2)) ∗ atPos (ER F) (cellAt c 2 d) 0 ∅ 0) ∗ cred (tallyAt (cellAt c 3 d) () (amt 3)) ∗ atPos (ER F) (cellAt c 3 d) 0 ∅ 0) := by
  unfold maxPos
  iintro ⟨H1, H2, H3, H4⟩
  isplitl [H1 H2]
  · isplitl [H1]; · iexact H1
    iexact H2
  isplitl [H3]; · iexact H3
  iexact H4
theorem split_wait (c : Dev nD) (d : Fin 31) :
    iprop((atPos (ER F) (cellAt c 2 d) 1 ∅ 0 ∗ dmaPay m c 2 d) ∗ atPos (ER F) (cellAt c 3 d) 1 ∅ 0 ∗ dmaPay m c 3 d)
      ⊢ iprop(maxPost (F := F) c d ∗ amP c (slotS 0) (Transfers.shareTok fullShare 31 d) (am m c) ∗ amP c (slotS d.succ) fullShare (am m c)) := by
  unfold maxPost
  rw [pay2, pay3]
  iintro ⟨⟨H1, H2⟩, H3, H4⟩
  isplitl [H1 H3]
  · isplitl [H1]; · iexact H1
    iexact H3
  isplitl [H2]; · iexact H2
  iexact H4

theorem am_slots (c : Dev nD) (f : Vec F S32x8x128 .f32) :
    amP c Finset.univ fullShare f = iprop(amP c (slotS 0) fullShare f ∗ bigSepL dists fun d => amP c (slotS d.succ) fullShare f) := by
  have e := pointsTo_biUnion (ℓ := (c : Thread nD τ).loc cc0_scratch2) (q := fullShare) (f := f) (Ix := Unit) (Val := Elt F) (Name := ℕ) (U := UU) (Lvl := ℕ) Finset.univ slotS
    fun p _ p' _ h => slots_disj h
  rw [← slots_univ] at e
  exact e.trans (around_slots _)

theorem wp_epilogue (κ : GSem nD τ sig → ℕ) (i : grid0.Coords) (c : Dev nD) (h : k0_cond8 i = 1#1) (arg4 : Memref sig .tc .vmem S128x8192 .f32)
    (Q : PUnit → sProp 𝕄) :
    iprop(recs m κ ∗ levAts L lv
        ∗ bigSepL dists (fun d => iprop(cred (tallyAt (cellAt c 0 d) () (amt 0)) ∗ atPos (ER F) (cellAt c 0 d) 0 ∅ 0)) ∗ (∃ W, owes (c : Thread nD τ) (oweM c) W)
        ∗ owns (c : Thread nD τ) arg4 fullShare (acc m c 7) ∗ (∃ f, amP c (slotS 0) fullShare f)
        ∗ bigSepL dists (maxPre (F := F) c) ∗ bigSepL dists (maxPos (F := F) c)
        ∗ ((bigSepL dists (fun d => iprop(atPos (ER F) (cellAt c 0 d) 1 ∅ 0 ∗ xsP c (rowS (peer c d)) (xOf m c))) ∗ (∃ W, owes (c : Thread nD τ) 0 W)
            ∗ owns (c : Thread nD τ) arg4 fullShare (res m c) ∗ amP c Finset.univ fullShare (am m c) ∗ bigSepL dists (maxPost (F := F) c)) -∗ Q ⟨⟩))
      ⊢ wp frame (wpE (defs₀ (F := F)) 𝒱₀ c none) Set.univ (epilogue (F := F) arg4 i c h) Q := by
  rw [epilogue]
  simp (config := { proj := false }) only [wp_bind]
  iintro ⟨#HR, #Hlev, Hs, HO, Ho, ⟨%fa, Ha⟩, Hpre, Hpos, Hk⟩
  iapply (wp_waitSends m κ i c h dists)
  isplitr; · iexact HR
  isplitr; · iexact Hlev
  isplitl [Hs]; · iexact Hs
  isplitl [HO]; · iexact HO
  iintro ⟨Hs, ⟨%W, HO⟩⟩
  simp (config := { proj := false }) only [Prog.lift]
  iapply (load_all (c := c) (M := arg4) zero2 fullShare (acc m c 7))
  isplitl [Ho]; · iexact Ho
  iintro Ho
  rw [wp_ret]
  imodintro
  have hset : (amM.access (Rect.unit (s := S32x8x128) ![0, 0, 0] S1x8x128.size inb_S32x8x128_S1x8x128_0_0_0)).set = slotS 0 :=
    (View.set_slice_whole _ _).trans (slotS_of 0 _ rfl _)
  iapply (wp_load_rect (c := (c : Thread nD τ)) 𝒱₀ none Set.univ (m := amM) (r := Rect.unit (s := S32x8x128) ![0, 0, 0] S1x8x128.size inb_S32x8x128_S1x8x128_0_0_0)
    (S := slotS 0) (q := fullShare) (f := fa) (le_of_eq hset)) $$ Ha
  iintro Ha
  rw [wp_ret]
  imodintro
  iapply (wp_store (c := (c : Thread nD τ)) 𝒱₀ none Set.univ (m := amM) (r := Rect.unit (s := S32x8x128) ![0, 0, 0] S1x8x128.size inb_S32x8x128_S1x8x128_0_0_0)
    (S := slotS 0) (f := fa) (le_of_eq hset)) $$ Ha
  iintro Ha
  ihave Ha := (Entails.of_eq (pointsTo_congr fun j hj => store_max m c fa j hj)) $$ Ha
  rw [wp_ret]
  imodintro
  ihave Ha := (Transfers.pointsTo_toks_split fullShare 31) $$ Ha
  icases Ha with ⟨Hdrop, Htoks⟩
  ihave Hres := (show iprop((bigSep Finset.univ fun d : Fin 31 => amP c (slotS 0) (Transfers.shareTok fullShare 31 d) (am m c)) ∗ bigSepL dists (maxPre (F := F) c))
      ⊢ bigSepL dists (maxRes m c) by
    rw [list_dists, ← sepL]; exact bigSepL_mono fun d _ => join_max m c d) $$ [Htoks Hpre]
  · isplitl [Htoks]; · iexact Htoks
    iexact Hpre
  iapply (wp_sendMs m κ c dists 0 W)
  isplitr; · iexact HR
  isplitl [Hres]; · iexact Hres
  isplitl [HO]; · rw [zero_add]; iexact HO
  iintro ⟨Hcs, HO⟩
  ihave Hw := (show iprop((bigSepL dists fun d => cred (tallyAt (cellAt c 2 d) () (amt 2))) ∗ bigSepL dists (maxPos (F := F) c)) ⊢ bigSepL dists (fun d =>
      iprop((cred (tallyAt (cellAt c 2 d) () (amt 2)) ∗ atPos (ER F) (cellAt c 2 d) 0 ∅ 0) ∗ cred (tallyAt (cellAt c 3 d) () (amt 3)) ∗ atPos (ER F) (cellAt c 3 d) 0 ∅ 0)) by
    rw [← sepL]; exact bigSepL_mono fun d _ => join_wait c d) $$ [Hcs Hpos]
  · isplitl [Hcs]; · iexact Hcs
    iexact Hpos
  iapply (wp_waitMs m κ c dists)
  isplitr; · iexact HR
  isplitr; · iexact Hlev
  isplitl [Hw]; · iexact Hw
  isplitl [HO]; · iexists W; iexact HO
  iintro ⟨Hw, HO⟩
  ihave Hw := (show bigSepL dists (fun d => iprop((atPos (ER F) (cellAt c 2 d) 1 ∅ 0 ∗ dmaPay m c 2 d) ∗ atPos (ER F) (cellAt c 3 d) 1 ∅ 0 ∗ dmaPay m c 3 d))
      ⊢ iprop(bigSepL dists (maxPost (F := F) c) ∗ (bigSep Finset.univ fun d : Fin 31 => amP c (slotS 0) (Transfers.shareTok fullShare 31 d) (am m c))
        ∗ bigSepL dists fun d => amP c (slotS d.succ) fullShare (am m c)) by
    rw [list_dists, ← sepL, ← sepL]; exact bigSepL_mono fun d _ => split_wait m c d) $$ Hw
  icases Hw with ⟨Hpost, Htoks, Hslots⟩
  ihave H0 := (Transfers.pointsTo_toks_join fullShare 31) $$ [Hdrop Htoks]
  · isplitl [Hdrop]; · iexact Hdrop
    iexact Htoks
  ihave Ha := (Entails.of_eq (am_slots c (am m c)).symm) $$ [H0 Hslots]
  · isplitl [H0]; · iexact H0
    iexact Hslots
  iapply (wp_load_rect (c := (c : Thread nD τ)) 𝒱₀ none Set.univ (m := amM) (r := Rect.unit (s := S32x8x128) ![0, 0, 0] S32x8x128.size inb_S32x8x128_S32x8x128_0_0_0)
    (S := Finset.univ) (q := fullShare) (f := am m c) (Finset.subset_univ _)) $$ Ha
  iintro Ha
  rw [wp_ret, load_am]
  imodintro
  iapply (load_all (c := c) (M := arg4) zero2 fullShare (acc m c 7))
  isplitl [Ho]; · iexact Ho
  iintro Ho
  rw [wp_ret]
  imodintro
  iapply (store_all (c := c) (M := arg4) zero2 (acc m c 7))
  isplitl [Ho]; · iexact Ho
  iintro Ho
  rw [wp_ret]
  imodintro
  iapply Hk
  isplitl [Hs]; · iexact Hs
  isplitl [HO]; · iexact HO
  isplitl [Ho]; · unfold res; iexact Ho
  isplitl [Ha]; · iexact Ha
  iexact Hpost

/-! ## The end of each grid point -/

theorem cond1_iff : ∀ i : grid0.Coords, k0_cond1 i = 1#1 ↔ (i 0).val = 0 := by decide +kernel
theorem cond6_iff : ∀ i : grid0.Coords, k0_cond6 i = 1#1 ↔ (i 0).val = 0 := by decide +kernel
theorem cond7_iff : ∀ i : grid0.Coords, k0_cond7 i = 1#1 ↔ (i 0).val ≠ 0 := by decide +kernel
theorem cond8_iff : ∀ i : grid0.Coords, k0_cond8 i = 1#1 ↔ (i 0).val = 7 := by decide +kernel

theorem onIf_pos {P : Prop} [Decidable P] (h : P) (k : P → KProg F PUnit) : onIf P k = k h := dif_pos h
theorem wp_skip {P : Prop} [Decidable P] (c : Dev nD) (h : ¬P) (k : P → KProg F PUnit) (Q : PUnit → sProp 𝕄) :
    Q ⟨⟩ ⊢ wp frame (wpE (defs₀ (F := F)) 𝒱₀ c none) Set.univ (onIf P k) Q := by
  rw [onIf, dif_neg h, Prog.pure_eq_ret, wp_ret]
  iintro H
  imodintro
  iexact H

/-- The first grid point stores the first product. -/
theorem rest_first (i : grid0.Coords) (hi : (i 0).val = 0) (c : Dev nD) (arg4 : Memref sig .tc .vmem S128x8192 .f32) (X : Vec F S128x8192 .f32) (Q : PUnit → sProp 𝕄) :
    iprop(owns (c : Thread nD τ) arg4 fullShare X ∗ (owns (c : Thread nD τ) arg4 fullShare (acc m c 0) -∗ Q ⟨⟩))
      ⊢ wp frame (wpE (defs₀ (F := F)) 𝒱₀ c none) Set.univ (rest (F := F) i c arg4 (xblk m c 0) (wblk m c 0)) Q := by
  rw [rest]
  simp (config := { proj := false }) only [wp_bind]
  iintro ⟨Ho, Hk⟩
  rw [onIf_pos ((cond6_iff i).mpr hi), storeFirst]
  simp (config := { proj := false }) only [wp_bind, Prog.lift]
  iapply (load_all (c := c) (M := arg4) zero2 fullShare X)
  isplitl [Ho]; · iexact Ho
  iintro Ho
  rw [wp_ret]
  imodintro
  iapply (store_all (c := c) (M := arg4) zero2 X)
  isplitl [Ho]; · iexact Ho
  iintro Ho
  rw [wp_ret]
  imodintro
  iapply (wp_skip c fun h => (cond7_iff i).mp h hi)
  iapply (wp_skip c fun h => by have := (cond8_iff i).mp h; omega)
  iapply Hk
  unfold acc; iexact Ho

/-- A later grid point adds its product, and goes on to what may follow. -/
theorem rest_later (i : grid0.Coords) (t : ℕ) (hi : (i 0).val = t + 1) (c : Dev nD) (arg4 : Memref sig .tc .vmem S128x8192 .f32) (Q : PUnit → sProp 𝕄) :
    iprop(owns (c : Thread nD τ) arg4 fullShare (acc m c t)
        ∗ (owns (c : Thread nD τ) arg4 fullShare (acc m c (t + 1)) -∗ wp frame (wpE (defs₀ (F := F)) 𝒱₀ c none) Set.univ (onIf (k0_cond8 i = 1#1) fun h => epilogue (F := F) arg4 i c h) Q))
      ⊢ wp frame (wpE (defs₀ (F := F)) 𝒱₀ c none) Set.univ (rest (F := F) i c arg4 (xblk m c (t + 1)) (wblk m c (t + 1))) Q := by
  rw [rest]
  simp (config := { proj := false }) only [wp_bind]
  iintro ⟨Ho, Hk⟩
  iapply (wp_skip c fun h => by have := (cond6_iff i).mp h; omega)
  rw [onIf_pos ((cond7_iff i).mpr (by omega)), storeLater]
  simp (config := { proj := false }) only [wp_bind, Prog.lift]
  iapply (load_all (c := c) (M := arg4) zero2 fullShare (acc m c t))
  isplitl [Ho]; · iexact Ho
  iintro Ho
  rw [wp_ret]
  imodintro
  iapply (load_all (c := c) (M := arg4) zero2 fullShare (acc m c t))
  isplitl [Ho]; · iexact Ho
  iintro Ho
  rw [wp_ret]
  imodintro
  iapply (store_all (c := c) (M := arg4) zero2 (acc m c t))
  isplitl [Ho]; · iexact Ho
  iintro Ho
  rw [wp_ret]
  imodintro
  iapply Hk
  rw [acc.eq_2]; iexact Ho

end Cert.KernelIdeal.Own

end
-- ==== Proof.States.lean ====
module

public import proofs.«01_k».proof.Proof.Run

/-! What a device holds before each grid point, and the run of the body from one point to the next. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The semaphores of a device -/

/-- Over the four arrays and the distances. -/
theorem arrays_dists (Φ : Fin 4 → Fin 31 → sProp 𝕄) :
    (bigSep Finset.univ fun x : Fin 4 × Fin 31 => Φ x.1 x.2)
      = iprop(bigSepL dists (Φ 0) ∗ bigSepL dists (Φ 1) ∗ bigSepL dists (Φ 2) ∗ bigSepL dists (Φ 3)) := by
  rw [bigSep_univ_prod, fin4, list_dists, list_dists, list_dists, list_dists]

/-- The semaphores no copy uses. -/
def unused (c : Dev nD) : sProp 𝕄 :=
  iprop(semVal ((c : Thread nD τ), osem (0, 0)) 0 ∗ semVal ((c : Thread nD τ), osem (1, c)) 0
    ∗ semVal ((c : Thread nD τ), osem (2, 0)) 0 ∗ semVal ((c : Thread nD τ), osem (3, 0)) 0)

theorem shuffle (A0 B0 A1 B1 A2 B2 A3 B3 : sProp 𝕄) :
    iprop((A0 ∗ B0) ∗ (A1 ∗ B1) ∗ (A2 ∗ B2) ∗ A3 ∗ B3) = iprop((A0 ∗ A1 ∗ A2 ∗ A3) ∗ B0 ∗ B1 ∗ B2 ∗ B3) := by
  have h : iprop((A0 ∗ B0) ∗ (A1 ∗ B1) ∗ (A2 ∗ B2) ∗ A3 ∗ B3) ⊢ iprop((A0 ∗ A1 ∗ A2 ∗ A3) ∗ B0 ∗ B1 ∗ B2 ∗ B3) := by
    iintro ⟨⟨A0, B0⟩, ⟨A1, B1⟩, ⟨A2, B2⟩, A3, B3⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  have h' : iprop((A0 ∗ A1 ∗ A2 ∗ A3) ∗ B0 ∗ B1 ∗ B2 ∗ B3) ⊢ iprop((A0 ∗ B0) ∗ (A1 ∗ B1) ∗ (A2 ∗ B2) ∗ A3 ∗ B3) := by
    iintro ⟨⟨A0, A1, A2, A3⟩, B0, B1, B2, B3⟩
    isplitl [A0 B0]
    · isplitl [A0]; · iexact A0
      iexact B0
    isplitl [A1 B1]
    · isplitl [A1]; · iexact A1
      iexact B1
    isplitl [A2 B2]
    · isplitl [A2]; · iexact A2
      iexact B2
    isplitl [A3]; · iexact A3
    iexact B3
  exact Entails.antisymm h h'

/-- All own semaphores of a device: those no copy uses and the cells. -/
theorem sems_eq (c : Dev nD) :
    (bigSep Finset.univ fun x : Fin 4 × Fin 32 => (semVal ((c : Thread nD τ), osem x) 0 : sProp 𝕄))
      = iprop(unused (F := F) c ∗ bigSep Finset.univ fun x : Fin 4 × Fin 31 => semVal (cellAt c x.1 x.2) 0) := by
  have h0 := around_slots (F := F) fun k => semVal ((c : Thread nD τ), osem (0, k)) 0
  have h1 := around (F := F) c fun k => semVal ((c : Thread nD τ), osem (1, k)) 0
  have h2 := around_slots (F := F) fun k => semVal ((c : Thread nD τ), osem (2, k)) 0
  have h3 := around_slots (F := F) fun k => semVal ((c : Thread nD τ), osem (3, k)) 0
  rw [bigSep_univ_prod, fin4, arrays_dists fun a d => semVal (cellAt c a d) 0]
  refine (congr (congrArg _ h0) (congr (congrArg _ h1) (congr (congrArg _ h2) h3))).trans ?_
  unfold unused
  exact shuffle _ _ _ _ _ _ _ _

variable (m : (ℓ : Loc nD τ sig) → Buf (Elt F) ℓ)

/-! ## The groups -/

/-- Before and after the product of a group. -/
def groupTodo (c : Dev nD) (g : Fin 8) : sProp 𝕄 := bigSep Finset.univ fun j : Fin 4 => todo m c (member g j)
def groupDone (c : Dev nD) (g : Fin 8) : sProp 𝕄 := bigSep Finset.univ fun j : Fin 4 => done m c (member g j)
/-- The group of grid point `k`, before grid point `t`. -/
def groupAt (c : Dev nD) (t : ℕ) (k : Fin 8) : sProp 𝕄 := if k.val < t then groupDone m c (gOf c k) else groupTodo m c (gOf c k)

theorem order_bij (c : Dev nD) : Function.Bijective fun x : Fin 8 × Fin 4 => member (gOf c x.1) x.2 := by
  revert c; decide +kernel

theorem over_groups (c : Dev nD) (Φ : Dev nD → sProp 𝕄) :
    bigSep Finset.univ Φ = bigSep Finset.univ fun k : Fin 8 => bigSep Finset.univ fun j : Fin 4 => Φ (member (gOf c k) j) :=
  (bigSep_univ_equiv (Equiv.ofBijective _ (order_bij c)) Φ).trans (bigSep_univ_prod _)

/-- The credit and the position of the wait for the row block of the peer at one distance. -/
def recvPos (c : Dev nD) (d : Fin 31) : sProp 𝕄 := iprop(cred (tallyAt (cellAt c 1 d) () (amt 1)) ∗ atPos (ER F) (cellAt c 1 d) 0 ∅ 0)

theorem todo_own (c : Dev nD) : todo m c c = xgP c (stripS c) (xg m c) := if_pos rfl
theorem todo_peer (c : Dev nD) (d : Fin 31) : todo m c (peer c d) = recvPos (F := F) c d := if_neg (peer_ne c d)
theorem done_own (c : Dev nD) : done m c c = iprop(xgP c (stripS c) (xg m c) ∗ emp) := by unfold done posP; rw [if_pos rfl]
theorem done_peer (c : Dev nD) (d : Fin 31) :
    done m c (peer c d) = iprop(xgP c (stripS (peer c d)) (xg m c) ∗ atPos (ER F) (cellAt c 1 d) 1 ∅ 0) := by
  unfold done posP; rw [if_neg (peer_ne c d)]; rfl

theorem groups_start (c : Dev nD) :
    iprop(xgP c (stripS c) (xg m c) ∗ bigSepL dists (recvPos (F := F) c)) = bigSep Finset.univ fun k : Fin 8 => groupAt m c 0 k := by
  have h := (around c (todo m c)).symm.trans (over_groups c (todo m c))
  rw [todo_own] at h
  have e : (fun d => todo m c (peer c d)) = recvPos (F := F) c := funext (todo_peer m c)
  rw [e] at h
  exact h

theorem xg_strips (c : Dev nD) (f : Vec F S128x4096 .bf16) : xgP c Finset.univ f = bigSep Finset.univ fun p : Dev nD => xgP c (stripS p) f := by
  have e := pointsTo_biUnion (ℓ := (c : Thread nD τ).loc cc0_scratch1) (q := fullShare) (f := f) (Ix := Unit) (Val := Elt F) (Name := ℕ) (U := UU) (Lvl := ℕ) Finset.univ stripS
    fun p _ p' _ h => strips_disj h
  rw [← strips_univ] at e
  exact e

theorem groups_end (c : Dev nD) :
    (bigSep Finset.univ fun k : Fin 8 => groupAt m c 8 k) ⊢ iprop(xgP c Finset.univ (xg m c) ∗ bigSepL dists fun d => atPos (ER F) (cellAt c 1 d) 1 ∅ 0) := by
  have h : (bigSep Finset.univ fun k : Fin 8 => groupAt m c 8 k) = bigSep Finset.univ (done m c) := by
    rw [over_groups c]
    exact bigSep_congr fun k _ => by unfold groupAt; rw [if_pos k.isLt]; rfl
  rw [h, around c, done_own, show (fun d => done m c (peer c d)) = fun d => iprop(xgP c (stripS (peer c d)) (xg m c) ∗ atPos (ER F) (cellAt c 1 d) 1 ∅ 0) from
    funext (done_peer m c), sepL, xg_strips, around c]
  iintro ⟨⟨H1, -⟩, H2, H3⟩
  isplitl [H1 H2]
  · isplitl [H1]; · iexact H1
    iexact H2
  iexact H3

theorem groups_step (c : Dev nD) (t : ℕ) (ht : t < 8) :
    (bigSep Finset.univ fun k : Fin 8 => groupAt m c t k)
      ⊢ iprop(groupTodo m c (gOf c t) ∗ (groupDone m c (gOf c t) -∗ bigSep Finset.univ fun k : Fin 8 => groupAt m c (t + 1) k)) := by
  have h1 := bigSep_univ_at (M := 𝕄) (Φ := fun k : Fin 8 => groupAt m c t k) ⟨t, ht⟩
  have h2 := bigSep_univ_at (M := 𝕄) (Φ := fun k : Fin 8 => groupAt m c (t + 1) k) ⟨t, ht⟩
  have e1 : groupAt m c t ⟨t, ht⟩ = groupTodo m c (gOf c t) := if_neg (lt_irrefl t)
  have e2 : groupAt m c (t + 1) ⟨t, ht⟩ = groupDone m c (gOf c t) := if_pos (Nat.lt_succ_self t)
  have e3 : bigSep (Finset.univ.erase (⟨t, ht⟩ : Fin 8)) (fun k => groupAt m c (t + 1) k) = bigSep (Finset.univ.erase ⟨t, ht⟩) (fun k => groupAt m c t k) :=
    bigSep_congr fun k hk => by
      have hne : k.val ≠ t := fun e => (Finset.mem_erase.mp hk).1 (Fin.ext e)
      unfold groupAt
      by_cases h : k.val < t
      · rw [if_pos h, if_pos (by omega)]
      · rw [if_neg h, if_neg (by omega)]
  rw [h1, h2, e1, e2, e3]
  iintro ⟨H1, H2⟩
  isplitl [H1]; · iexact H1
  iintro H1
  isplitl [H1]; · iexact H1
  iexact H2

/-! ## What a device holds between grid points -/

/-- The records, the levels, the table and the semaphores no copy uses. -/
def common (c : Dev nD) : sProp 𝕄 := iprop((∃ κ, recs m κ) ∗ levAts L lv ∗ tabP (F := F) c ∗ unused (F := F) c)

/-- What entering takes at one distance beside the strip and the slot handed over. -/
def sigTok (c : Dev nD) (d : Fin 31) : sProp 𝕄 :=
  iprop(dutyTok (ER F) (barCell (peer c d)) 0 d.rev ∗ reached (ER F) (cellAt c 1 d) 0 ∗ reached (ER F) (cellAt c 3 d.rev) 0)
/-- What the exchange of the maxima takes at one distance beside the peer's slot. -/
def maxTok (c : Dev nD) (d : Fin 31) : sProp 𝕄 :=
  iprop(dutyTok (ER F) (cellAt c 2 d) 0 0 ∗ reached (ER F) (cellAt c 2 d) 0 ∗ dutyTok (ER F) (cellAt (peer c d) 3 d) 0 0)
abbrev sendPos (c : Dev nD) (d : Fin 31) : sProp 𝕄 := atPos (ER F) (cellAt c 0 d) 0 ∅ 0

/-- The protocol's resources before the first grid point. -/
def ghost (c : Dev nD) : sProp 𝕄 :=
  iprop(cred (tallyAt (barCell c) () 31) ∗ atPos (ER F) (barCell c) 0 ∅ 0
    ∗ bigSepL dists (sigTok (F := F) c) ∗ bigSepL dists (sendTok (F := F) c) ∗ bigSepL dists (maxTok (F := F) c)
    ∗ bigSepL dists (sendPos (F := F) c) ∗ bigSepL dists (maxPos (F := F) c) ∗ bigSepL dists (recvPos (F := F) c))

/-- Before the first grid point. -/
def start (c : Dev nD) : sProp 𝕄 :=
  iprop(common m c ∗ ghost (F := F) c ∗ (∃ f, xsP c Finset.univ f) ∗ (∃ f, xgP c Finset.univ f) ∗ ∃ f, amP c Finset.univ fullShare f)

/-- Before a later one: all but the groups, -/
def carry (c : Dev nD) : sProp 𝕄 :=
  iprop(common m c ∗ atPos (ER F) (barCell c) 1 ∅ 0 ∗ xsP c (rowS c) (xOf m c)
    ∗ bigSepL dists (fun d => iprop(cred (tallyAt (cellAt c 0 d) () (amt 0)) ∗ atPos (ER F) (cellAt c 0 d) 0 ∅ 0))
    ∗ (∃ f, amP c (slotS 0) fullShare f) ∗ bigSepL dists (maxPre (F := F) c) ∗ bigSepL dists (maxPos (F := F) c))
/-- and with them. -/
def middle (c : Dev nD) (t : ℕ) : sProp 𝕄 := iprop(carry m c ∗ bigSep Finset.univ fun k : Fin 8 => groupAt m c t k)

/-- After the last. -/
def finish (c : Dev nD) : sProp 𝕄 :=
  iprop(tabP (F := F) c ∗ (∃ f, xsP c Finset.univ f) ∗ (∃ f, xgP c Finset.univ f) ∗ (∃ f, amP c Finset.univ fullShare f)
    ∗ semVal (barCell c) 0 ∗ bigSep Finset.univ fun x : Fin 4 × Fin 32 => semVal ((c : Thread nD τ), osem x) 0)

/-! ## From one grid point to the next -/

theorem rev_dists (Φ : Fin 31 → sProp 𝕄) : bigSepL dists Φ = bigSepL dists fun d => Φ d.rev := by
  rw [← list_dists, ← list_dists]
  exact bigSep_univ_equiv Fin.revPerm Φ

/-- The scratch buffers split for the handshake. -/
theorem hand_out (c : Dev nD) :
    iprop((∃ f, xgP c Finset.univ f) ∗ (∃ f, amP c Finset.univ fullShare f) ∗ bigSepL dists (sigTok (F := F) c))
      ⊢ iprop(bigSepL dists (sigRes (F := F) c) ∗ (∃ f, xgP c (stripS c) f) ∗ ∃ f, amP c (slotS 0) fullShare f) := by
  iintro ⟨⟨%f, Hg⟩, ⟨%f', Ha⟩, Ht⟩
  ihave Hg := (Entails.of_eq ((xg_strips c f).trans (around c _))) $$ Hg
  icases Hg with ⟨Hg0, Hg⟩
  ihave Ha := (Entails.of_eq ((am_slots c f').trans (congrArg (fun P : sProp 𝕄 => iprop(amP c (slotS 0) fullShare f' ∗ P)) (rev_dists _)))) $$ Ha
  icases Ha with ⟨Ha0, Ha⟩
  isplitl [Hg Ha Ht]
  · iapply (show iprop((bigSepL dists fun d => xgP c (stripS (peer c d)) f) ∗ (bigSepL dists fun d => amP c (slotS d.rev.succ) fullShare f') ∗ bigSepL dists (sigTok (F := F) c))
      ⊢ bigSepL dists (sigRes (F := F) c) by
        rw [← sepL, ← sepL]
        refine bigSepL_mono fun d _ => ?_
        unfold sigTok sigRes
        iintro ⟨H1, H2, H3, H4, H5⟩
        isplitl [H3]; · iexact H3
        isplitl [H1]; · iexists f; iexact H1
        isplitl [H2]; · iexists f'; iexact H2
        isplitl [H4]; · iexact H4
        iexact H5)
    isplitl [Hg]; · iexact Hg
    isplitl [Ha]; · iexact Ha
    iexact Ht
  isplitl [Hg0]; · iexists f; iexact Hg0
  iexists f'; iexact Ha0

theorem wp_deviceHead (c : Dev nD) (k : Dev nD → KProg F PUnit) (Q : PUnit → sProp 𝕄) :
    wp frame (wpE (defs₀ (F := F)) 𝒱₀ c none) Set.univ (k c) Q
      ⊢ wp frame (wpE (defs₀ (F := F)) 𝒱₀ c none) Set.univ (Prog.lift .deviceId >>= k : KProg F PUnit) Q :=
  Entails.of_eq (wp_deviceId 𝒱₀ (c : Thread nD τ) none Set.univ).symm

/-- The first grid point. -/
theorem wp_first (i : grid0.Coords) (hi : (i 0).val = 0) (c : Dev nD) (arg2 : Memref sig .tc .vmem S4096x128 .bf16) (arg3 : Memref sig .tc .vmem S512x8192 .bf16)
    (arg4 : Memref sig .tc .vmem S128x8192 .f32) (X : Vec F S128x8192 .f32) :
    iprop(start m c ∗ (∃ W, owes (c : Thread nD τ) (O₀ c) W) ∗ owns (c : Thread nD τ) arg2 fullShare (xOf m c) ∗ owns (c : Thread nD τ) arg3 fullShare (wblk m c 0)
        ∗ owns (c : Thread nD τ) arg4 fullShare X)
      ⊢ wp frame (wpE (defs₀ (F := F)) 𝒱₀ c none) Set.univ (body i arg2 arg3 arg4) fun _ =>
        iprop(middle m c 1 ∗ (∃ W, owes (c : Thread nD τ) (oweM c) W) ∗ owns (c : Thread nD τ) arg2 fullShare (xOf m c)
          ∗ owns (c : Thread nD τ) arg3 fullShare (wblk m c 0) ∗ owns (c : Thread nD τ) arg4 fullShare (acc m c 0)) := by
  rw [body_point]
  refine .trans ?_ (wp_deviceHead c _ _)
  simp (config := { proj := false }) only [wp_bind]
  unfold start common ghost
  iintro ⟨⟨⟨⟨%κ, #HR⟩, #Hlev, Ht, Hun⟩, ⟨Hcb, Hab, Hsig, Hst, Hmt, Hsp, Hmp, Hrp⟩, Hxs, Hxg, Ham⟩, HO, H2, H3, H4⟩
  ihave Hh := (hand_out c) $$ [Hxg Ham Hsig]
  · isplitl [Hxg]; · iexact Hxg
    isplitl [Ham]; · iexact Ham
    iexact Hsig
  icases Hh with ⟨Hsig, Hg, Ha⟩
  rw [onIf_pos ((cond1_iff i).mpr hi)]
  iapply (wp_prologue m κ i c _ arg2)
  isplitr; · iexact HR
  isplitr; · iexact Hlev
  isplitl [Hsig]; · iexact Hsig
  isplitl [Hg]; · iexact Hg
  isplitl [Hxs]; · iexact Hxs
  isplitl [HO]; · iexact HO
  isplitl [Hcb]; · iexact Hcb
  isplitl [Hab]; · iexact Hab
  isplitl [H2]; · iexact H2
  isplitl [Hst]; · iexact Hst
  iintro ⟨Hab, H2, Hxc, Hgc, Hcs, Hsl, HO⟩
  ihave Hgr := (Entails.of_eq (groups_start m c)) $$ [Hgc Hrp]
  · isplitl [Hgc]; · iexact Hgc
    iexact Hrp
  ihave Hgr := (groups_step m c 0 (by decide)) $$ Hgr
  icases Hgr with ⟨Htd, Hgr⟩
  iapply (wp_point m κ i c 0 hi arg3 arg4)
  isplitr; · iexact HR
  isplitr; · iexact Hlev
  isplitl [Ht]; · iexact Ht
  isplitl [Htd]; · unfold groupTodo; iexact Htd
  isplitl [HO]; · iexact HO
  isplitl [H3]; · iexact H3
  iintro ⟨Ht, Hd, HO, H3⟩
  ihave Hd := (Entails.of_eq (group_done m c (gOf c 0)).symm) $$ Hd
  ihave Hgr := Hgr $$ [Hd]
  · unfold groupDone; iexact Hd
  iapply (rest_first m i hi c arg4 X)
  isplitl [H4]; · iexact H4
  iintro H4
  isplitr [HO H2 H3 H4]
  · unfold middle carry common
    isplitr [Hgr]
    · isplitl [Ht Hun]
      · isplitr; · iexists κ; iexact HR
        isplitr; · iexact Hlev
        isplitl [Ht]; · iexact Ht
        iexact Hun
      isplitl [Hab]; · iexact Hab
      isplitl [Hxc]; · iexact Hxc
      isplitl [Hcs Hsp]
      · rw [sepL]
        isplitl [Hcs]; · iexact Hcs
        iexact Hsp
      isplitl [Ha]; · iexact Ha
      isplitl [Hsl Hmt]
      · rw [show maxPre (F := F) c = fun d => iprop(slotRes (F := F) c d ∗ maxTok (F := F) c d) from rfl, sepL]
        isplitl [Hsl]; · iexact Hsl
        iexact Hmt
      iexact Hmp
    iexact Hgr
  isplitl [HO]; · iexact HO
  isplitl [H2]; · iexact H2
  isplitl [H3]; · iexact H3
  iexact H4

/-- A later grid point up to what follows the sum. -/
theorem wp_later (i : grid0.Coords) (t : ℕ) (hi : (i 0).val = t + 1) (ht : t + 1 < 8) (c : Dev nD) (arg2 : Memref sig .tc .vmem S4096x128 .bf16)
    (arg3 : Memref sig .tc .vmem S512x8192 .bf16) (arg4 : Memref sig .tc .vmem S128x8192 .f32) (Q : PUnit → sProp 𝕄) :
    iprop(middle m c (t + 1) ∗ (∃ W, owes (c : Thread nD τ) (oweM c) W) ∗ owns (c : Thread nD τ) arg3 fullShare (wblk m c (t + 1))
        ∗ owns (c : Thread nD τ) arg4 fullShare (acc m c t)
        ∗ ((middle m c (t + 1 + 1) ∗ (∃ W, owes (c : Thread nD τ) (oweM c) W)
            ∗ owns (c : Thread nD τ) arg3 fullShare (wblk m c (t + 1)) ∗ owns (c : Thread nD τ) arg4 fullShare (acc m c (t + 1)))
          -∗ wp frame (wpE (defs₀ (F := F)) 𝒱₀ c none) Set.univ (onIf (k0_cond8 i = 1#1) fun h => epilogue (F := F) arg4 i c h) Q))
      ⊢ wp frame (wpE (defs₀ (F := F)) 𝒱₀ c none) Set.univ (body i arg2 arg3 arg4) Q := by
  rw [body_point]
  refine .trans ?_ (wp_deviceHead c _ _)
  simp (config := { proj := false }) only [wp_bind]
  unfold middle carry common
  iintro ⟨⟨⟨⟨⟨%κ, #HR⟩, #Hlev, Ht, Hun⟩, Hcarry⟩, Hgr⟩, HO, H3, H4, Hk⟩
  iapply (wp_skip c fun h => by have := (cond1_iff i).mp h; omega)
  ihave Hgr := (groups_step m c (t + 1) ht) $$ Hgr
  icases Hgr with ⟨Htd, Hgr⟩
  iapply (wp_point m κ i c (t + 1) hi arg3 arg4)
  isplitr; · iexact HR
  isplitr; · iexact Hlev
  isplitl [Ht]; · iexact Ht
  isplitl [Htd]; · unfold groupTodo; iexact Htd
  isplitl [HO]; · iexact HO
  isplitl [H3]; · iexact H3
  iintro ⟨Ht, Hd, HO, H3⟩
  ihave Hd := (Entails.of_eq (group_done m c (gOf c (t + 1))).symm) $$ Hd
  ihave Hgr := Hgr $$ [Hd]
  · unfold groupDone; iexact Hd
  iapply (rest_later m i t hi c arg4)
  isplitl [H4]; · iexact H4
  iintro H4
  iapply Hk
  isplitr [HO H3 H4]
  · isplitr [Hgr]
    · isplitl [Ht Hun]
      · isplitr; · iexists κ; iexact HR
        isplitr; · iexact Hlev
        isplitl [Ht]; · iexact Ht
        iexact Hun
      iexact Hcarry
    iexact Hgr
  isplitl [HO]; · iexact HO
  isplitl [H3]; · iexact H3
  iexact H4

/-- A grid point between the first and the last. -/
theorem wp_between (i : grid0.Coords) (t : ℕ) (hi : (i 0).val = t + 1) (ht : t + 1 < 7) (c : Dev nD) (arg2 : Memref sig .tc .vmem S4096x128 .bf16)
    (arg3 : Memref sig .tc .vmem S512x8192 .bf16) (arg4 : Memref sig .tc .vmem S128x8192 .f32) :
    iprop(middle m c (t + 1) ∗ (∃ W, owes (c : Thread nD τ) (oweM c) W) ∗ owns (c : Thread nD τ) arg2 fullShare (xOf m c)
        ∗ owns (c : Thread nD τ) arg3 fullShare (wblk m c (t + 1)) ∗ owns (c : Thread nD τ) arg4 fullShare (acc m c t))
      ⊢ wp frame (wpE (defs₀ (F := F)) 𝒱₀ c none) Set.univ (body i arg2 arg3 arg4) fun _ =>
        iprop(middle m c (t + 1 + 1) ∗ (∃ W, owes (c : Thread nD τ) (oweM c) W) ∗ owns (c : Thread nD τ) arg2 fullShare (xOf m c)
          ∗ owns (c : Thread nD τ) arg3 fullShare (wblk m c (t + 1)) ∗ owns (c : Thread nD τ) arg4 fullShare (acc m c (t + 1))) := by
  iintro ⟨Hm, HO, H2, H3, H4⟩
  iapply (wp_later m i t hi (by omega) c arg2 arg3 arg4)
  isplitl [Hm]; · iexact Hm
  isplitl [HO]; · iexact HO
  isplitl [H3]; · iexact H3
  isplitl [H4]; · iexact H4
  iintro ⟨Hm, HO, H3, H4⟩
  iapply (wp_skip c fun h => by have := (cond8_iff i).mp h; omega)
  isplitl [Hm]; · iexact Hm
  isplitl [HO]; · iexact HO
  isplitl [H2]; · iexact H2
  isplitl [H3]; · iexact H3
  iexact H4

/-- The cells closed after the last exchange. -/
theorem close_cells (κ : GSem nD τ sig → ℕ) (c : Dev nD) :
    iprop(recs m κ ∗ atPos (ER F) (barCell c) 1 ∅ 0 ∗ bigSep Finset.univ fun x : Fin 4 × Fin 31 => atPos (ER F) (cellAt c x.1 x.2) 1 ∅ 0)
      ⊢ |={Set.univ}=> iprop(semVal (barCell c) 0 ∗ bigSep Finset.univ fun x : Fin 4 × Fin 31 => semVal (cellAt c x.1 x.2) 0) := by
  have hb := cell_close (ER F) (Rd m) (g := barCell c) (κ := κ (barCell c)) (Es := Set.univ) (Set.mem_univ _) (fun h => h) (R := 1) (fun r hr => duties_later m _ r hr)
  have hc := cells_close (ER F) (Rd m) (Finset.univ : Finset (Fin 4 × Fin 31)) (fun x => cellAt c x.1 x.2) (fun x => κ (cellAt c x.1 x.2)) (Es := Set.univ) (fun _ _ => Set.mem_univ _)
    (fun _ _ h => h) (fun _ => 1) (fun _ _ r hr => duties_later m _ r hr)
  have hr : iprop(recs m κ ∗ bigSep Finset.univ fun x : Fin 4 × Fin 31 => atPos (ER F) (cellAt c x.1 x.2) 1 ∅ 0)
      ⊢ bigSep Finset.univ fun x : Fin 4 × Fin 31 => iprop(cellInv (ER F) (Rd m) (κ (cellAt c x.1 x.2)) (cellAt c x.1 x.2) ∗ atPos (ER F) (cellAt c x.1 x.2) 1 ∅ 0) :=
    bigSep_with_persistent fun x _ => sep_mono (recs_at m κ c x.1 x.2) .rfl
  iintro ⟨#HR, Hb, Hc⟩
  ihave Hi := (recs_bar m κ c) $$ HR
  icases Hi with ⟨#HI, -⟩
  imod hb $$ [Hb] with Hb
  · isplitr; · iexact HI
    iexact Hb
  ihave Hc := hr $$ [Hc]
  · isplitr; · iexact HR
    iexact Hc
  imod hc $$ Hc with Hc
  imodintro
  isplitl [Hb]; · iexact Hb
  iexact Hc

/-- The last grid point. -/
theorem wp_last (i : grid0.Coords) (hi : (i 0).val = 7) (c : Dev nD) (arg2 : Memref sig .tc .vmem S4096x128 .bf16)
    (arg3 : Memref sig .tc .vmem S512x8192 .bf16) (arg4 : Memref sig .tc .vmem S128x8192 .f32) :
    iprop(middle m c 7 ∗ (∃ W, owes (c : Thread nD τ) (oweM c) W) ∗ owns (c : Thread nD τ) arg2 fullShare (xOf m c)
        ∗ owns (c : Thread nD τ) arg3 fullShare (wblk m c 7) ∗ owns (c : Thread nD τ) arg4 fullShare (acc m c 6))
      ⊢ wp frame (wpE (defs₀ (F := F)) 𝒱₀ c none) Set.univ (body i arg2 arg3 arg4) fun _ =>
        iprop(finish (F := F) c ∗ (∃ W, owes (c : Thread nD τ) 0 W) ∗ owns (c : Thread nD τ) arg2 fullShare (xOf m c)
          ∗ owns (c : Thread nD τ) arg3 fullShare (wblk m c 7) ∗ owns (c : Thread nD τ) arg4 fullShare (res m c)) := by
  refine .trans ?_ (wp_fupd _ _ _ _ _)
  iintro ⟨Hm, HO, H2, H3, H4⟩
  iapply (wp_later m i 6 hi (by decide) c arg2 arg3 arg4)
  isplitl [Hm]; · iexact Hm
  isplitl [HO]; · iexact HO
  isplitl [H3]; · iexact H3
  isplitl [H4]; · iexact H4
  iintro ⟨Hm, HO, H3, H4⟩
  rw [onIf_pos ((cond8_iff i).mpr hi)]
  ihave Hm := (show middle m c (6 + 1 + 1) ⊢ iprop(carry m c ∗ bigSep Finset.univ fun k : Fin 8 => groupAt m c 8 k) from .rfl) $$ Hm
  unfold carry common
  icases Hm with ⟨⟨⟨⟨%κ, #HR⟩, #Hlev, Ht, Hun⟩, Hab, Hxc, Hcs, Ha, Hpre, Hpos⟩, Hgr⟩
  iapply (wp_epilogue m κ i c _ arg4)
  isplitr; · iexact HR
  isplitr; · iexact Hlev
  isplitl [Hcs]; · iexact Hcs
  isplitl [HO]; · iexact HO
  isplitl [H4]; · iexact H4
  isplitl [Ha]; · iexact Ha
  isplitl [Hpre]; · iexact Hpre
  isplitl [Hpos]; · iexact Hpos
  iintro ⟨Hs, HO, H4, Ha, Hpost⟩
  ihave Hgr := (groups_end m c) $$ Hgr
  icases Hgr with ⟨Hg, Hp1⟩
  ihave Hs := (Entails.of_eq (sepL dists _ _)) $$ Hs
  icases Hs with ⟨Hp0, Hx⟩
  ihave Hpost := (Entails.of_eq (sepL dists (fun d => atPos (ER F) (cellAt c 2 d) 1 ∅ 0) fun d => atPos (ER F) (cellAt c 3 d) 1 ∅ 0)) $$ [Hpost]
  · unfold maxPost; iexact Hpost
  icases Hpost with ⟨Hp2, Hp3⟩
  ihave Hp := (Entails.of_eq (arrays_dists fun a d => atPos (ER F) (cellAt c a d) 1 ∅ 0).symm) $$ [Hp0 Hp1 Hp2 Hp3]
  · isplitl [Hp0]; · iexact Hp0
    isplitl [Hp1]; · iexact Hp1
    isplitl [Hp2]; · iexact Hp2
    iexact Hp3
  ihave Hx := (Entails.of_eq (xs_rows c (xOf m c)).symm) $$ [Hxc Hx]
  · isplitl [Hxc]; · iexact Hxc
    iexact Hx
  imod (close_cells m κ c) $$ [Hab Hp] with ⟨Hb, Hp⟩
  · isplitr; · iexact HR
    isplitl [Hab]; · iexact Hab
    iexact Hp
  imodintro
  isplitr [HO H2 H3 H4]
  · unfold finish
    isplitl [Ht]; · iexact Ht
    isplitl [Hx]; · iexists _; iexact Hx
    isplitl [Hg]; · iexists _; iexact Hg
    isplitl [Ha]; · iexists _; iexact Ha
    isplitl [Hb]; · iexact Hb
    rw [sems_eq]
    isplitl [Hun]; · iexact Hun
    iexact Hp
  isplitl [HO]; · iexact HO
  isplitl [H2]; · iexact H2
  isplitl [H3]; · iexact H3
  iexact H4

end Cert.KernelIdeal.Own

end
-- ==== Proof.Fund.lean ====
module

public import proofs.«01_k».proof.Proof.States

/-! What the launch deals: every cell's invariant, the rights to open the scoped cells, the tokens of the payments each
device makes, and the credit of the payments made to it. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Cells and tokens -/

theorem cell_inj {c c' : Dev nD} {a a' : Fin 4} {d d' : Fin 31} (h : cellAt c a d = cellAt c' a' d') : c = c' ∧ a = a' ∧ d = d' := by
  have hc : c = c' := congrArg (fun g : GSem nD τ sig => g.1.1) h
  subst hc
  have h2 : decode c (osem (a, num c a d)) = decode c (osem (a', num c a' d')) := congrArg (fun g : GSem nD τ sig => decode c g.2) h
  rw [decode_osem, decode_osem] at h2
  have h2 := Option.some.inj h2
  exact ⟨rfl, congrArg Prod.fst h2, congrArg Prod.snd h2⟩

def barEmb : Dev nD ↪ GSem nD τ sig := ⟨fun c => barCell c, fun _ _ h => congrArg (fun g : GSem nD τ sig => g.1.1) h⟩
def atEmb : Dev nD × Fin 4 × Fin 31 ↪ GSem nD τ sig :=
  ⟨fun x => cellAt x.1 x.2.1 x.2.2, fun _ _ h => Prod.ext (cell_inj h).1 (Prod.ext (cell_inj h).2.1 (cell_inj h).2.2)⟩
def barTok : Dev nD × Fin 31 ↪ GSem nD τ sig × ℕ × Fin 31 :=
  ⟨fun x => (barCell x.1, 0, x.2), fun _ _ h => Prod.ext (congrArg (fun g : GSem nD τ sig × ℕ × Fin 31 => g.1.1.1) h) (congrArg (fun g : GSem nD τ sig × ℕ × Fin 31 => g.2.2) h)⟩
def atTok : Dev nD × Fin 4 × Fin 31 ↪ GSem nD τ sig × ℕ × Fin 31 :=
  ⟨fun x => (cellAt x.1 x.2.1 x.2.2, 0, 0), fun _ _ h => atEmb.injective (congrArg (fun g : GSem nD τ sig × ℕ × Fin 31 => g.1) h)⟩

/-- The barrier cells, live from the launch; the scoped cells, dormant; the token of every payment. -/
abbrev barCells : Finset (GSem nD τ sig) := Finset.univ.map barEmb
abbrev atCells : Finset (GSem nD τ sig) := Finset.univ.map atEmb
abbrev toks : Finset (GSem nD τ sig × ℕ × Fin 31) := Finset.univ.map barTok ∪ Finset.univ.map atTok

theorem cells_disj : Disjoint barCells atCells := by
  rw [Finset.disjoint_left]
  rintro g h₁ h₂
  obtain ⟨c, -, rfl⟩ := Finset.mem_map.mp h₁
  obtain ⟨x, -, h⟩ := Finset.mem_map.mp h₂
  exact osem_ne_bar _ (congrArg Prod.snd h)
theorem toks_disj : Disjoint (Finset.univ.map barTok) (Finset.univ.map atTok) := by
  rw [Finset.disjoint_left]
  rintro g h₁ h₂
  obtain ⟨c, -, rfl⟩ := Finset.mem_map.mp h₁
  obtain ⟨x, -, h⟩ := Finset.mem_map.mp h₂
  exact osem_ne_bar _ (congrArg (fun g : GSem nD τ sig × ℕ × Fin 31 => g.1.2) h)

/-! ## From the cells' owners to the payers -/

/-- Device `c` at distance `d` from the device that is at distance `d` the other way. -/
def swapE : Dev nD × Fin 31 ≃ Dev nD × Fin 31 where
  toFun x := (peer x.1 x.2, x.2.rev)
  invFun x := (peer x.1 x.2, x.2.rev)
  left_inv x := Prod.ext (peer_peer_rev _ _) (Fin.rev_rev _)
  right_inv x := Prod.ext (peer_peer_rev _ _) (Fin.rev_rev _)
/-- The same with the distance kept. -/
def shiftE : Dev nD × Fin 31 ≃ Dev nD × Fin 31 where
  toFun x := (peer x.1 x.2, x.2)
  invFun x := (peer x.1 x.2.rev, x.2)
  left_inv x := Prod.ext (peer_peer_rev _ _) rfl
  right_inv x := Prod.ext (by show peer (peer x.1 x.2.rev) x.2 = x.1; conv_lhs => rw [← Fin.rev_rev x.2, Fin.rev_rev x.2.rev]
                              exact peer_peer_rev _ _) rfl

theorem over_swap (Φ : Dev nD → Fin 31 → sProp 𝕄) :
    (bigSep Finset.univ fun c => bigSepL dists (Φ c)) = bigSep Finset.univ fun c => bigSepL dists fun d => Φ (peer c d) d.rev := by
  have h := bigSep_univ_equiv swapE fun x => Φ x.1 x.2
  rw [bigSep_univ_prod, bigSep_univ_prod] at h
  refine (bigSep_congr fun c _ => (list_dists _).symm).trans (h.trans (bigSep_congr fun c _ => list_dists _))
theorem over_shift (Φ : Dev nD → Fin 31 → sProp 𝕄) :
    (bigSep Finset.univ fun c => bigSepL dists (Φ c)) = bigSep Finset.univ fun c => bigSepL dists fun d => Φ (peer c d) d := by
  have h := bigSep_univ_equiv shiftE fun x => Φ x.1 x.2
  rw [bigSep_univ_prod, bigSep_univ_prod] at h
  refine (bigSep_congr fun c _ => (list_dists _).symm).trans (h.trans (bigSep_congr fun c _ => list_dists _))

/-- The tokens of the payments device `c` makes at one distance. -/
def payTok (c : Dev nD) : sProp 𝕄 :=
  iprop((bigSepL dists fun d => dutyTok (ER F) (barCell (peer c d)) 0 d.rev)
    ∗ (bigSepL dists fun d => dutyTok (ER F) (cellAt c 0 d) 0 0) ∗ (bigSepL dists fun d => dutyTok (ER F) (cellAt (peer c d) 1 d.rev) 0 0)
    ∗ (bigSepL dists fun d => dutyTok (ER F) (cellAt c 2 d) 0 0) ∗ (bigSepL dists fun d => dutyTok (ER F) (cellAt (peer c d) 3 d) 0 0))

theorem deal_toks : (bigSep toks fun x => (dutyTok (ER F) x.1 x.2.1 x.2.2 : sProp 𝕄)) = bigSep Finset.univ fun c : Dev nD => payTok (F := F) c := by
  rw [bigSep_union toks_disj, bigSep_map, bigSep_map, bigSep_univ_prod, bigSep_univ_prod]
  have e1 : (bigSep Finset.univ fun c : Dev nD => bigSep Finset.univ fun d : Fin 31 => (dutyTok (ER F) (barTok (c, d)).1 (barTok (c, d)).2.1 (barTok (c, d)).2.2 : sProp 𝕄))
      = bigSep Finset.univ fun c : Dev nD => bigSepL dists fun d => dutyTok (ER F) (barCell (peer c d)) 0 d.rev :=
    (bigSep_congr fun c _ => list_dists _).trans (over_swap fun c d => dutyTok (ER F) (barCell c) 0 d)
  have e2 : (bigSep Finset.univ fun c : Dev nD => bigSep Finset.univ fun x : Fin 4 × Fin 31 => (dutyTok (ER F) (atTok (c, x)).1 (atTok (c, x)).2.1 (atTok (c, x)).2.2 : sProp 𝕄))
      = bigSep Finset.univ fun c : Dev nD => iprop((bigSepL dists fun d => dutyTok (ER F) (cellAt c 0 d) 0 0) ∗ (bigSepL dists fun d => dutyTok (ER F) (cellAt c 1 d) 0 0)
          ∗ (bigSepL dists fun d => dutyTok (ER F) (cellAt c 2 d) 0 0) ∗ (bigSepL dists fun d => dutyTok (ER F) (cellAt c 3 d) 0 0)) :=
    bigSep_congr fun c _ => arrays_dists fun a d => dutyTok (ER F) (cellAt c a d) 0 0
  rw [e1, e2]
  unfold payTok
  rw [bigSep_sep', bigSep_sep', bigSep_sep', bigSep_sep', bigSep_sep', bigSep_sep', bigSep_sep',
    over_swap (fun c d => dutyTok (ER F) (cellAt c 1 d) 0 0), over_shift (fun c d => dutyTok (ER F) (cellAt c 3 d) 0 0)]
  rfl

/-! ## The launch credit -/

theorem owe_sum (f : Fin 31 → CellTallies nD τ sig Unit) : owe f dists = ∑ d, f d := by
  have h : ∀ l : List (Fin 31), owe f l = (l.map f).sum := fun l => by
    induction l with
    | nil => rfl
    | cons d l ih => rw [owe, ih, List.map_cons, List.sum_cons, add_comm]
  rw [h, Fin.sum_univ_def]
  rfl

/-- The credit of the payments made to device `c`. -/
def due (c : Dev nD) : CellTallies nD τ sig Unit :=
  (owe (fun d => tallyAt (cellAt c 3 d) () (amt 3)) dists + owe (fun d => tallyAt (cellAt c 1 d) () (amt 1)) dists) + tallyAt (barCell c) () 31

theorem sum_tallies (g : GSem nD τ sig) : (∑ _d : Fin 31, (tallyAt g () 1 : CellTallies nD τ sig Unit)) = tallyAt g () 31 := by
  have h : ∀ n : ℕ, (∑ _d : Fin n, (tallyAt g () 1 : CellTallies nD τ sig Unit)) = tallyAt g () n := fun n => by
    induction n with
    | zero => rw [Finset.univ_eq_empty, Finset.sum_empty, tallyAt_zero]
    | succ n ih => rw [Fin.sum_univ_castSucc, ih, tallyAt_add]
  exact h 31

theorem over_sum (e : Dev nD × Fin 31 ≃ Dev nD × Fin 31) (f : Dev nD × Fin 31 → CellTallies nD τ sig Unit) :
    (∑ c, ∑ d, f (e (c, d))) = ∑ c, ∑ d, f (c, d) := by
  rw [← Fintype.sum_prod_type' (f := fun c d => f (e (c, d))), ← Fintype.sum_prod_type' (f := fun c d => f (c, d))]
  exact Equiv.sum_comp e f

theorem sum_due : (∑ c, O₀ c) = ∑ c, due c := by
  unfold due O₀ oweXM oweM
  simp only [Finset.sum_add_distrib, owe_sum]
  refine congr (congrArg _ (congr (congrArg _ ?_) ?_)) ?_
  · exact over_sum shiftE fun x => tallyAt (cellAt x.1 3 x.2) () (amt 3)
  · exact over_sum swapE fun x => tallyAt (cellAt x.1 1 x.2) () (amt 1)
  · refine (over_sum swapE fun x => tallyAt (barCell x.1) () 1).trans ?_
    exact Finset.sum_congr rfl fun c _ => sum_tallies (barCell c)

theorem due_own (c : Dev nD) (g : GSem nD τ sig) (h : due c g ≠ 0) : g.1 = (c : Thread nD τ) := by
  obtain ⟨u, hu⟩ := DFunLike.ne_iff.mp h
  have hu : 0 < due c g u := Nat.pos_of_ne_zero hu
  unfold due at hu
  rw [Pi.add_apply, Finsupp.add_apply, Pi.add_apply, Finsupp.add_apply] at hu
  rcases Nat.add_pos_iff_pos_or_pos.mp hu with hu | hu
  · rcases Nat.add_pos_iff_pos_or_pos.mp hu with hu | hu
    · obtain ⟨d, hd⟩ := owe_pos _ _ _ _ hu
      rw [tally_pos hd]
    · obtain ⟨d, hd⟩ := owe_pos _ _ _ _ hu
      rw [tally_pos hd]
  · rw [tally_pos hu]

theorem cred_owe (f : Fin 31 → CellTallies nD τ sig Unit) (l : List (Fin 31)) : (cred (owe f l) : sProp 𝕄) ⊢ bigSepL l fun d => cred (f d) := by
  induction l with
  | nil => rw [owe, cred_zero]; exact .rfl
  | cons d l ih =>
    rw [owe, bigSepL_cons']
    refine (cred_add _ _).1.trans ?_
    iintro ⟨H1, H2⟩
    isplitl [H2]; · iexact H2
    iapply ih; iexact H1

/-- The credit device `c` starts with. -/
def credits (c : Dev nD) : sProp 𝕄 :=
  iprop(cred (tallyAt (barCell c) () 31) ∗ (bigSepL dists fun d => cred (tallyAt (cellAt c 1 d) () (amt 1))) ∗ bigSepL dists fun d => cred (tallyAt (cellAt c 3 d) () (amt 3)))

theorem deal_credit (c : Dev nD) : (Pipeline.launchCred O₀ c : sProp 𝕄) ⊢ credits (F := F) c := by
  rw [Pipeline.launchCred_of_sum O₀ due sum_due due_own c]
  unfold due credits
  refine (cred_add _ _).1.trans ?_
  iintro ⟨H, Hb⟩
  ihave H := (cred_add _ _).1 $$ H
  icases H with ⟨H3, H1⟩
  isplitl [Hb]; · iexact Hb
  isplitl [H1]
  · iapply (cred_owe _ dists); iexact H1
  iapply (cred_owe _ dists); iexact H3

/-! ## What each device starts with -/

variable (m : (ℓ : Loc nD τ sig) → Buf (Elt F) ℓ)

/-- Beside the records: the position at the barrier, the rights to open the scoped cells, the tokens, the credit. -/
def dealt (c : Dev nD) : sProp 𝕄 :=
  iprop(atPos (ER F) (barCell c) 0 ∅ 0 ∗ (bigSep Finset.univ fun x : Fin 4 × Fin 31 => openTok (ER F) (cellAt c x.1 x.2)) ∗ payTok (F := F) c ∗ credits (F := F) c)

/-- The scoped cells of a device opened. -/
theorem open_cells (c : Dev nD) (κ : GSem nD τ sig → ℕ) :
    iprop(recs m κ ∗ (bigSep Finset.univ fun x : Fin 4 × Fin 31 => openTok (ER F) (cellAt c x.1 x.2)) ∗ bigSep Finset.univ fun x : Fin 4 × Fin 31 => semVal (cellAt c x.1 x.2) 0)
      ⊢ (|={Set.univ}=> iprop((bigSep Finset.univ fun x : Fin 4 × Fin 31 => atPos (ER F) (cellAt c x.1 x.2) 0 ∅ 0)
          ∗ bigSep Finset.univ fun x : Fin 4 × Fin 31 => reached (ER F) (cellAt c x.1 x.2) 0) : sProp 𝕄) := by
  have h := Rounds.cells_open (ER F) (Rd m) (K := Fin 4 × Fin 31) Finset.univ (fun x => cellAt c x.1 x.2) (fun x => κ (cellAt c x.1 x.2)) (Es := Set.univ) fun _ _ => Set.mem_univ _
  rw [bigSep_sep' (Φ := fun x : Fin 4 × Fin 31 => atPos (ER F) (cellAt c x.1 x.2) 0 ∅ 0)] at h
  iintro ⟨#HR, Ho, Hv⟩
  iapply h
  isplitr [Hv]
  · iapply (bigSep_with_persistent (R := recs m κ) (Φ := fun x : Fin 4 × Fin 31 => openTok (ER F) (cellAt c x.1 x.2)) fun x _ => by
      iintro ⟨#HR, H⟩
      isplitr
      · iapply (recs_at m κ c x.1 x.2); iexact HR
      iexact H)
    isplitr; · iexact HR
    iexact Ho
  iexact Hv

/-- The protocol's resources before the first grid point. -/
theorem ghost_intro (c : Dev nD) :
    iprop(atPos (ER F) (barCell c) 0 ∅ 0 ∗ payTok (F := F) c ∗ credits (F := F) c ∗ (bigSep Finset.univ fun x : Fin 4 × Fin 31 => atPos (ER F) (cellAt c x.1 x.2) 0 ∅ 0)
          ∗ bigSep Finset.univ fun x : Fin 4 × Fin 31 => reached (ER F) (cellAt c x.1 x.2) 0)
      ⊢ ghost (F := F) c := by
  rw [arrays_dists fun a d => atPos (ER F) (cellAt c a d) 0 ∅ 0, arrays_dists fun a d => reached (ER F) (cellAt c a d) 0]
  unfold payTok credits ghost
  iintro ⟨Hb, ⟨T0, T1, T2, T3, T4⟩, ⟨C0, C1, C3⟩, ⟨P0, P1, P2, P3⟩, R0, R1, R2, R3⟩
  isplitl [C0]; · iexact C0
  isplitl [Hb]; · iexact Hb
  isplitl [T0 R1 R3]
  · rw [show sigTok (F := F) c = fun d => iprop(dutyTok (ER F) (barCell (peer c d)) 0 d.rev ∗ reached (ER F) (cellAt c 1 d) 0 ∗ reached (ER F) (cellAt c 3 d.rev) 0) from rfl, sepL, sepL,
      ← rev_dists fun d => reached (ER F) (cellAt c 3 d) 0]
    isplitl [T0]; · iexact T0
    isplitl [R1]; · iexact R1
    iexact R3
  isplitl [T1 T2 R0]
  · rw [show sendTok (F := F) c = fun d => iprop(dutyTok (ER F) (cellAt c 0 d) 0 0 ∗ reached (ER F) (cellAt c 0 d) 0 ∗ dutyTok (ER F) (cellAt (peer c d) 1 d.rev) 0 0) from rfl, sepL, sepL]
    isplitl [T1]; · iexact T1
    isplitl [R0]; · iexact R0
    iexact T2
  isplitl [T3 T4 R2]
  · rw [show maxTok (F := F) c = fun d => iprop(dutyTok (ER F) (cellAt c 2 d) 0 0 ∗ reached (ER F) (cellAt c 2 d) 0 ∗ dutyTok (ER F) (cellAt (peer c d) 3 d) 0 0) from rfl, sepL, sepL]
    isplitl [T3]; · iexact T3
    isplitl [R2]; · iexact R2
    iexact T4
  isplitl [P0]; · iexact P0
  isplitl [P2 C3 P3]
  · rw [show maxPos (F := F) c = fun d => iprop(atPos (ER F) (cellAt c 2 d) 0 ∅ 0 ∗ cred (tallyAt (cellAt c 3 d) () (amt 3)) ∗ atPos (ER F) (cellAt c 3 d) 0 ∅ 0) from rfl, sepL, sepL]
    isplitl [P2]; · iexact P2
    isplitl [C3]; · iexact C3
    iexact P3
  rw [show recvPos (F := F) c = fun d => iprop(cred (tallyAt (cellAt c 1 d) () (amt 1)) ∗ atPos (ER F) (cellAt c 1 d) 0 ∅ 0) from rfl, sepL]
  isplitl [C1]; · iexact C1
  iexact P1

/-! ## The launch -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

theorem bar_map (Φ : GSem nD τ sig → sProp 𝕄) : bigSep barCells Φ = bigSep Finset.univ fun c : Dev nD => Φ (barCell c) :=
  bigSep_map (s := Finset.univ) barEmb (Φ := Φ)
theorem at_map (Φ : GSem nD τ sig → sProp 𝕄) :
    bigSep atCells Φ = bigSep Finset.univ fun c : Dev nD => bigSep Finset.univ fun x : Fin 4 × Fin 31 => Φ (cellAt c x.1 x.2) :=
  (bigSep_map (s := Finset.univ) atEmb (Φ := Φ)).trans (bigSep_univ_prod _)

theorem recs_intro (κ : GSem nD τ sig → ℕ) :
    iprop(bigSep (barCells ∪ atCells) (fun g => cellInv (ER F) (Rd m) (κ g) g) ∗ bigSep barCells fun g => (reached (ER F) g 0 : sProp 𝕄)) ⊢ recs m κ := by
  have h : bigSep (barCells ∪ atCells) (fun g => (cellInv (ER F) (Rd m) (κ g) g : sProp 𝕄))
      ⊢ iprop(bigSep barCells (fun g => cellInv (ER F) (Rd m) (κ g) g) ∗ bigSep atCells fun g => cellInv (ER F) (Rd m) (κ g) g) :=
    Entails.of_eq (bigSep_union cells_disj)
  unfold recs
  rw [bigSep_sep']
  iintro ⟨H, H3⟩
  ihave H := h $$ H
  icases H with ⟨H1, H2⟩
  isplitl [H1 H3]
  · isplitl [H1]
    · iapply (Entails.of_eq (bar_map fun g => cellInv (ER F) (Rd m) (κ g) g)) $$ H1
    iapply (Entails.of_eq (bar_map fun g => reached (ER F) g 0)) $$ H3
  iapply (Entails.of_eq (bigSep_map (s := Finset.univ) atEmb (Φ := fun g => cellInv (ER F) (Rd m) (κ g) g))) $$ H2

/-- The rounds established: the records, and everything linear still by cell and token. -/
theorem found :
    iprop((bigSep barCells fun g => semVal g 0) ∗ BI.own (ER F (launchOf barCells atCells toks)))
      ⊢ (|={Set.univ}=> iprop((∃ κ, recs m κ) ∗ bigSep barCells (fun g => atPos (ER F) g 0 ∅ 0) ∗ bigSep atCells (fun g => openTok (ER F) g)
          ∗ bigSep toks fun x => dutyTok (ER F) x.1 x.2.1 x.2.2) : sProp 𝕄) := by
  iintro H
  imod (Rounds.fund_launch (ER F) (Rd m) cells_disj (fun g _ h => h) toks) $$ H with ⟨%κ, -, #Hinv, #Hr, Hat, Hopen, Htok⟩
  imodintro
  isplitr
  · iexists κ
    iapply (recs_intro m κ)
    isplitr; · iexact Hinv
    iexact Hr
  isplitl [Hat]; · iexact Hat
  isplitl [Hopen]; · iexact Hopen
  iexact Htok

theorem dealt_intro :
    iprop(bigSep barCells (fun g => atPos (ER F) g 0 ∅ 0) ∗ bigSep atCells (fun g => openTok (ER F) g)
          ∗ (bigSep toks fun x => dutyTok (ER F) x.1 x.2.1 x.2.2) ∗ bigSep Finset.univ fun c : Dev nD => Pipeline.launchCred O₀ c)
      ⊢ (bigSep Finset.univ fun c : Dev nD => dealt (F := F) c : sProp 𝕄) := by
  rw [show (fun c => dealt (F := F) c) = fun c => iprop(atPos (ER F) (barCell c) 0 ∅ 0 ∗ (bigSep Finset.univ fun x : Fin 4 × Fin 31 => openTok (ER F) (cellAt c x.1 x.2)) ∗ payTok (F := F) c ∗ credits (F := F) c) from rfl,
    bigSep_sep', bigSep_sep', bigSep_sep', deal_toks, bar_map, at_map]
  exact sep_mono_right (sep_mono_right (sep_mono_right (bigSep_mono fun c _ => deal_credit c)))

/-- The barrier counters and the launch element, dealt to the devices. -/
theorem deal :
    iprop((bigSep Finset.univ fun c : Dev nD => semVal (barCell c) 0) ∗ (bigSep Finset.univ fun c : Dev nD => Pipeline.launchCred O₀ c) ∗ BI.own (ER F (launchOf barCells atCells toks)))
      ⊢ (|={Set.univ}=> bigSep Finset.univ fun c : Dev nD => iprop((∃ κ, recs m κ) ∗ dealt (F := F) c) : sProp 𝕄) := by
  rw [← bar_map fun g => semVal g 0]
  iintro ⟨Hv, Hc, Hu⟩
  imod (found m) $$ [Hv Hu] with ⟨⟨%κ, #HR⟩, Hat, Hopen, Htok⟩
  · isplitl [Hv]; · iexact Hv
    iexact Hu
  imodintro
  iapply (bigSep_with_persistent (R := recs m κ) (Φ := fun c => dealt (F := F) c) fun c _ => by
    iintro ⟨#HR, H⟩
    isplitr; · iexists κ; iexact HR
    iexact H)
  isplitr; · iexact HR
  iapply dealt_intro
  isplitl [Hat]; · iexact Hat
  isplitl [Hopen]; · iexact Hopen
  isplitl [Htok]; · iexact Htok
  iexact Hc

end Cert.KernelIdeal.Own

end
-- ==== Proof.Order.lean ====
module

public import proofs.«01_k».proof.Proof.Access
public import Idealize.ShloMosaic.PureOps.BitExact
public import proofs.«01_k».proof.Proof.Gen.KernelIdeal.Regions

/-! The table of groups the host computes before the call. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

variable (X : Valuation τ sig (Elt F))

/-- The device's place in the ring, -/
def place (c : Dev nD) : Vec F S_ .i32 :=
  Host.remui (Host.divui (constantI S_ 32 (Dev.word c) : Vec F S_ .i32) (constantI S_ 32 1#32)) (constantI S_ 32 32#32)

theorem after_place (c : Dev nD) : StableHlo.after (hostOps0 c) X main_v4 = place (F := F) c := by
  after_results
  rfl
theorem after_four (c : Dev nD) : StableHlo.after (hostOps0 c) X main_c_1 = (constantI S_ 32 4#32 : Vec F S_ .i32) := by
  after_results

/-- The quotient rounded down, as the host computes it. -/
def floorDiv (a b : Vec F S_ .i32) : Vec F S_ .i32 :=
  select (andi (cmpi .ne (signi a) (signi b)) (cmpi .ne (Host.remsi a b : Vec F S_ .i32) (constantI S_ 32 0#32)))
    (subi (Host.divsi a b) (constantI S_ 32 1#32)) (Host.divsi a b)

theorem after_quotient : StableHlo.after hostOps0_1 X main_v5 = floorDiv (F := F) (X main_v4) (X main_c_1) := by
  after_results
  rfl

theorem after_order : StableHlo.after hostOps0_2 X main_v10
    = (Host.remsi (addi (broadcastInDim S8 ![] bcast_S_S8 (X main_v5 : Vec F S_ .i32)) (iotaInDim S8 32 0)) (broadcastInDim S8 ![] bcast_S_S8 (constantI S_ 32 8#32 : Vec F S_ .i32)) : Vec F S8 .i32) := by
  after_results

theorem quotient_word : ∀ c : Dev nD, (floorDiv (F := F) (place c) (constantI S_ 32 4#32)) = fun _ => BitVec.ofNat 32 (c.val / 4) := by
  intro c
  funext i
  show (floorDiv (F := Bits) (place c) (constantI S_ 32 4#32)) i = _
  revert c i
  decide +kernel

theorem order_word : ∀ (c : Dev nD) (j : S8.Idx), (Host.remsi (addi (broadcastInDim S8 ![] bcast_S_S8 (fun _ => BitVec.ofNat 32 (c.val / 4) : Vec F S_ .i32)) (iotaInDim S8 32 0)) (broadcastInDim S8 ![] bcast_S_S8 (constantI S_ 32 8#32 : Vec F S_ .i32)) : Vec F S8 .i32) j
    = gW (gOf c (j 0).val) := by
  intro c j
  show (Host.remsi (addi (broadcastInDim S8 ![] bcast_S_S8 (fun _ => BitVec.ofNat 32 (c.val / 4) : Vec Bits S_ .i32)) (iotaInDim S8 32 0)) (broadcastInDim S8 ![] bcast_S_S8 (constantI S_ 32 8#32 : Vec Bits S_ .i32)) : Vec Bits S8 .i32) j = _
  revert c j
  decide +kernel

variable (m : (ℓ : Loc nD τ sig) → Buf (Elt F) ℓ)

/-- The table the kernel reads. -/
theorem order_eq (c : Dev nD) : V3 m c main_v10 = ordC (F := F) c := by
  show StableHlo.after hostOps0_2 (V2 m c) main_v10 = _
  rw [after_order]
  have e5 : (V2 m c main_v5 : Vec F S_ .i32) = fun _ => BitVec.ofNat 32 (c.val / 4) := by
    show StableHlo.after hostOps0_1 (V1 m c) main_v5 = _
    rw [after_quotient]
    have e4 : (V1 m c main_v4 : Vec F S_ .i32) = place c := after_place _ c
    have e1 : (V1 m c main_c_1 : Vec F S_ .i32) = constantI S_ 32 4#32 := after_four _ c
    rw [e4, e1]
    exact quotient_word c
  rw [e5]
  funext j
  exact order_word c j

end Cert.KernelIdeal.Own

end
-- ==== Proof.Table.lean ====
module

public import proofs.«01_k».proof.Proof.States

/-! The prefetched table of a device, the pipeline at it, and the blocks its windows move. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F]

local notation "𝕄" => MT nD τ sig Unit (Elt F) ℕ UU ℕ

/-- The one table of device `c`. -/
def tabC (c : Dev nD) : pre0.Contents (Elt F) := fun
  | ⟨0, _⟩ => ordC (F := F) c
  | ⟨_ + 1, h⟩ => absurd h (Nat.not_lt.2 (Nat.le_add_left _ _))

/-- The row block of the second operand a grid point reads is the group's. -/
theorem index_tab (c : Dev nD) (i : grid0.Coords) : cc0_transform_1 k0_off1_inb numel1_S1 (tabC (F := F) c) i = ![(gOf c (i 0).val).val, 0] := by
  have hi : ∀ i : grid0.Coords, (Scalar.indexCast (BitVec.ofNat 32 (i 0).val) : Index).toNat = (i 0).val := by decide +kernel
  have e : (tabC (F := F) c).at 0 (Rect.unit (s := S8) ![(Scalar.indexCast (BitVec.ofNat 32 (i 0).val) : Index).toNat] S1.size (k0_off1_inb i)) numel1_S1 = gW (gOf c (i 0).val) := by
    show gW (gOf c _) = _
    congr 2
    refine (ValueKit.rect_emb_unit_val _ _ _ _ _).trans ?_
    show (Scalar.indexCast (BitVec.ofNat 32 (i 0).val) : Index).toNat + _ = _
    have h1 : ∀ (n : ℕ) (k : Fin 1), n = (i 0).val → n + k.val = (i 0).val := fun n k h => by omega
    exact h1 _ _ (hi i)
  have h8 : ∀ g : Fin 8, (gW g).toNat = g.val := by decide
  unfold cc0_transform_1
  dsimp only
  rw [e, h8]
  rfl

theorem tab_inb (c : Dev nD) (i : grid0.Coords) : ∀ a, ((![(gOf c (i 0).val).val, 0] : Fin 2 → Nat) a + 1) * S512x8192.size a ≤ S4096x8192.size a := by
  have h : ∀ (g : Fin 8) (a : Fin 2), ((![g.val, 0] : Fin 2 → Nat) a + 1) * S512x8192.size a ≤ S4096x8192.size a := by decide
  exact h _

theorem tab_words : ∀ (g : Fin 8) (h : ∀ a, ((![g.val, 0] : Fin 2 → Nat) a + 1) * S512x8192.size a ≤ S4096x8192.size a),
    (Rect.block (s := S4096x8192) S512x8192.size ![g.val, 0] h).WholeWords (EltTy.packing .bf16) := by decide +kernel

theorem tab_ok (c : Dev nD) : ok0 (tabC (F := F) c) := by
  unfold ok0
  intro i
  rw [index_tab c i]
  exact ⟨tab_inb c i, .inr (tab_words _ _)⟩

/-- The table as the pipeline takes it. -/
def adm (c : Dev nD) (_ : Fin 1) : (pcfg0 (F := F)).Adm := ⟨tabC c, tab_ok c⟩

/-- The pipeline of device `c`. -/
abbrev cfgC (c : Dev nD) : Pipeline.Cfg sig Λ₀ := Pipeline.pinD (pcfgs (F := F)) adm c 0

variable (m : (ℓ : Loc nD τ sig) → Buf (Elt F) ℓ)

/-- The output block after grid point `t`. -/
def outAt (c : Dev nD) (t : ℕ) : Vec F S128x8192 .f32 := if t = 7 then res m c else acc m c t
/-- What the device holds before grid point `t`, -/
def stateAt (c : Dev nD) (t : ℕ) : sProp 𝕄 := if t = 0 then start m c else if t = 8 then finish (F := F) c else middle m c t
/-- and owes. -/
def oweAt (c : Dev nD) (t : ℕ) : CellTallies nD τ sig Unit := if t = 0 then O₀ c else if t = 8 then 0 else oweM c

/-- The pipeline's proof data. -/
def dats (_ : Fin 1) (c : Dev nD) : Dat τ (Elt F) Unit ℕ UU ℕ (cfgC (F := F) c) c where
  A w := m ((spec0 w).arr.view.loc (c : Thread nD τ))
  after w t := match w with
    | ⟨0, _⟩ => xOf m c
    | ⟨1, _⟩ => wblk m c t.val
    | ⟨2, _⟩ => outAt m c t.val
  Φ t := stateAt m c t.val
  q _ := fullShare
  owed t := oweAt c t.val

abbrev w0 : Fin 3 := 0
abbrev w1 : Fin 3 := 1
abbrev w2 : Fin 3 := 2

theorem coords_val : ∀ t : Fin grid0.N, (grid0.coords t 0).val = t.val := by decide +kernel

theorem fetch_w1 (c : Dev nD) (t : Fin (cfgC (F := F) c).N) : ((cfgC (F := F) c).win w1).fetch t = true := by
  rw [Pipeline.Window.fetch_in _ rfl]
  by_cases h : t.val = 0
  · exact .inl h
  refine .inr ⟨by omega, fun e => ?_⟩
  have e : cc0_transform_1 k0_off1_inb numel1_S1 (tabC (F := F) c) (grid0.coords t) = cc0_transform_1 k0_off1_inb numel1_S1 (tabC (F := F) c) (grid0.coords ⟨t.val - 1, Nat.lt_of_le_of_lt (Nat.sub_le _ _) t.isLt⟩) := e
  rw [index_tab, index_tab, coords_val, coords_val] at e
  have e : (gOf c t.val).val = (gOf c (t.val - 1)).val := congrFun e 0
  have e : (c.val / 4 + t.val) % 8 = (c.val / 4 + (t.val - 1)) % 8 := e
  have : t.val < 8 := t.isLt.trans_eq N_0
  omega

theorem fetch_w0 (t : Fin grid0.N) : Pipeline.Window.fetchOf grid0 false cc0_transform_0 t = decide (t.val = 0) := by
  revert t; decide +kernel
theorem flush_w2 (t : Fin grid0.N) : Pipeline.Window.flushOf grid0 true cc0_transform_2 t = decide (t.val = 7) := by
  revert t; decide +kernel

theorem before_w1 (c : Dev nD) (t : Fin (cfgC (F := F) c).N) (d) : (dats m 0 c).before w1 t d = wblk m c t.val := by
  unfold Dat.before; rw [if_pos (fetch_w1 c t)]
  funext j
  show ((dats m 0 c).blockOf w1 t) j = _
  rw [Dat.blockOf_apply, View.read_apply]
  have h1 : ((cfgC (F := F) c).win w1).index t = ![(gOf c t.val).val, 0] := by
    show cc0_transform_1 k0_off1_inb numel1_S1 (tabC (F := F) c) (grid0.coords t) = _
    rw [index_tab, coords_val]
  refine (cast_eq _ _).trans ?_
  show m ((c : Thread nD τ).loc main_arg1) _ = m ((c : Thread nD τ).loc main_arg1) _
  congr 1
  funext a
  apply Fin.ext
  refine (Pipeline.Window.rect_emb_val _ t j a).trans ?_
  have h2 : ((cfgC (F := F) c).win w1).index t a = (![(gOf c t.val).val, 0] : Fin 2 → ℕ) a := congrFun h1 a
  rw [h2]
  match a with
  | ⟨0, _⟩ => show (gOf c t.val).val * 512 + (j 0).val = 512 * (gOf c t.val).val + (j 0).val; omega
  | ⟨1, _⟩ => show 0 * 8192 + (j 1).val = (j 1).val; omega

/-- Window 0 is fetched at the first point and kept; -/
theorem blockOf_w0 (c : Dev nD) (t : Fin (cfgC (F := F) c).N) (d) : (dats m 0 c).fetched w0 t d = xOf m c := by
  funext j
  show ((dats m 0 c).blockOf w0 t) j = _
  rw [Dat.blockOf_apply, View.read_apply]
  refine (cast_eq _ _).trans ?_
  show m ((c : Thread nD τ).loc main_arg0) _ = m ((c : Thread nD τ).loc main_arg0) _
  congr 1
  funext a
  apply Fin.ext
  refine (Pipeline.Window.rect_emb_val _ t j a).trans ?_
  match a with
  | ⟨0, _⟩ => show 0 * 4096 + (j 0).val = (j 0).val; omega
  | ⟨1, _⟩ => show 0 * 128 + (j 1).val = (j 1).val; omega

theorem before_w0 (c : Dev nD) (t : Fin (cfgC (F := F) c).N) (d) : (dats m 0 c).before w0 t d = xOf m c := by
  have hf : ((cfgC (F := F) c).win w0).fetch t = decide (t.val = 0) := fetch_w0 t
  by_cases h : t.val = 0
  · unfold Dat.before; rw [if_pos (by rw [hf]; exact decide_eq_true h)]; exact blockOf_w0 m c t d
  · rw [Dat.before_of_pos _ w0 t h (by rw [hf]; exact decide_eq_false h)]
    rw [if_neg (by rw [show ((cfgC (F := F) c).win w0).flush _ = false from rfl]; exact Bool.false_ne_true)]
    rfl

theorem idle_w2 : ∀ s : Fin grid0.N, idle0 2 (grid0.coords s) = false := by decide +kernel

/-- the output's block is never fetched. -/
theorem before_w2 (c : Dev nD) (t : Fin (cfgC (F := F) c).N) (h : t.val ≠ 0) (d) : (dats m 0 c).before w2 t d = outAt m c (t.val - 1) := by
  rw [Dat.before_of_pos _ w2 t h rfl]
  have hf : ∀ s : Fin grid0.N, s.val ≠ 7 → ¬ (((cfgC (F := F) c).win w2).flush s = true) := fun s hs => by
    rw [show ((cfgC (F := F) c).win w2).flush s = _ from flush_w2 s, decide_eq_true_eq]; exact hs
  have : t.val < 8 := t.isLt.trans_eq N_0
  rw [if_neg (hf _ (by show t.val - 1 ≠ 7; omega))]
  unfold Dat.left
  rw [show (cfgC (F := F) c).idle w2 _ = false from idle_w2 _]
  rfl

end Cert.KernelIdeal.Own

end
-- ==== Proof.BodyEq.lean ====
module

public import proofs.«01_k».proof.Proof.Body
public import Idealize.ShloMosaic.Lib.Pipeline.Regions

@[expose] public section

noncomputable section

namespace Cert.KernelIdeal.Own

open Idealize.ShloMosaic Idealize.SL.Sem Cert.KernelIdeal.Gen

variable {F : FTy → Type} [FloatOps F]

/-- The body's first part, its tests in the place the printed text has them. -/
def core (i : grid0.Coords) (arg2 : Memref sig .tc .vmem S4096x128 .bf16) (arg3 : Memref sig .tc .vmem S512x8192 .bf16) :
    KProg F (Σ' (_ : BitVec 32) (_ : Dev nD) (_ : BitVec 32) (_ : Vec F S128x512 .bf16), Vec F S512x8192 .bf16) := do
  let c : Dev nD ← Prog.lift .deviceId
  if h : k0_cond1 i = 1#1 then do
    prologue (F := F) arg2 i c h
    pure ⟨⟩
  else do
    pure ⟨⟩
  let v7 : Elt F .i32 ← smemLoad (Memref.whole main_v10) (Rect.unit (s := S8) (k0_off7 i) S1.size (k0_off7_inb i)) numel1_S1 rfl
  have hw : k0_chk1 c v7 := (← Prog.lift (TpuEff.assume (k0_chk1 c v7) (k0_chk1.dec c v7))).down
  if k0_h2 : k0_cond2 c v7 = 1#1 then do
    waitRecv (F := F) (k0_off8 v7) (k0_off9 v7) (k0_off8_inb c v7 hw k0_h2) (k0_off9_inb c v7 hw k0_h2) (k0_off9_wordsbf16 c v7 hw k0_h2)
    pure ⟨⟩
  else do
    pure ⟨⟩
  if k0_h3 : k0_cond3 c v7 = 1#1 then do
    waitRecv (F := F) (k0_off10 v7) (k0_off11 v7) (k0_off10_inb c v7 hw k0_h3) (k0_off11_inb c v7 hw k0_h3) (k0_off11_wordsbf16 c v7 hw k0_h3)
    pure ⟨⟩
  else do
    pure ⟨⟩
  if k0_h4 : k0_cond4 c v7 = 1#1 then do
    waitRecv (F := F) (k0_off12 v7) (k0_off13 v7) (k0_off12_inb c v7 hw k0_h4) (k0_off13_inb c v7 hw k0_h4) (k0_off13_wordsbf16 c v7 hw k0_h4)
    pure ⟨⟩
  else do
    pure ⟨⟩
  if k0_h5 : k0_cond5 c v7 = 1#1 then do
    waitRecv (F := F) (k0_off14 v7) (k0_off15 v7) (k0_off14_inb c v7 hw k0_h5) (k0_off15_inb c v7 hw k0_h5) (k0_off15_wordsbf16 c v7 hw k0_h5)
    pure ⟨⟩
  else do
    pure ⟨⟩
  let v30 : Vec F S128x512 .bf16 ← Prog.lift (.load xgM (Rect.unit (s := S128x4096) (k0_off16 v7) S128x512.size (k0_off16_inb c v7 hw)).toLoadRect (View.loadsAt_vmem h_S128x512))
  let v31 : Vec F S512x8192 .bf16 ← Prog.lift (.load arg3 (Rect.unit (s := S512x8192) ![0, 0] S512x8192.size inb_S512x8192_S512x8192_0_0).toLoadRect (View.loadsAt_vmem h_S512x8192))
  pure ⟨BitVec.ofNat 32 (i 0).val, c, Scalar.remsi (Scalar.divsi (Dev.word c) 1#32) 32#32, v30, v31⟩

/-- The body with its tests in the place the printed text has them. -/
def body0 (i : grid0.Coords) (arg2 : Memref sig .tc .vmem S4096x128 .bf16) (arg3 : Memref sig .tc .vmem S512x8192 .bf16) (arg4 : Memref sig .tc .vmem S128x8192 .f32) : KProg F PUnit := do
  let ⟨_, c, _, v30, v31⟩ ← core (F := F) i arg2 arg3
  if h : k0_cond6 i = 1#1 then do
    storeFirst arg4 v30 v31
    pure ⟨⟩
  else do
    pure ⟨⟩
  if h : k0_cond7 i = 1#1 then do
    storeLater arg4 v30 v31
    pure ⟨⟩
  else do
    pure ⟨⟩
  if h : k0_cond8 i = 1#1 then do
    epilogue arg4 i c h
    pure ⟨⟩
  else do
    pure ⟨⟩
  pure ⟨⟩

set_option maxRecDepth 100000 in
theorem body_eq (i : grid0.Coords) (arg2 : Memref sig .tc .vmem S4096x128 .bf16) (h2 : arg2.IsWhole) (arg3 : Memref sig .tc .vmem S512x8192 .bf16) (h3 : arg3.IsWhole)
    (arg4 : Memref sig .tc .vmem S128x8192 .f32) (h4 : arg4.IsWhole) :
    cc0__body (F := F) i (Memref.whole main_v10) (Memref.isWhole_whole _) arg2 h2 arg3 h3 arg4 h4 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
      = body0 (F := F) i arg2 arg3 arg4 := by
  chain_rfl

theorem bind_onIf {α : Type} (p : Prop) [Decidable p] (k : p → KProg F PUnit) (r : PUnit → KProg F α) :
    (onIf p k >>= r) = if h : p then (do k h; r ⟨⟩) else r ⟨⟩ := by
  unfold onIf; split <;> rfl

theorem dite_bind' {α β : Type} (p : Prop) [Decidable p] (a : p → KProg F α) (b : ¬ p → KProg F α) (r : α → KProg F β) :
    ((if h : p then a h else b h) >>= r) = if h : p then (a h >>= r) else (b h >>= r) := by
  split <;> rfl

theorem body0_eq (i : grid0.Coords) (arg2 : Memref sig .tc .vmem S4096x128 .bf16) (arg3 : Memref sig .tc .vmem S512x8192 .bf16) (arg4 : Memref sig .tc .vmem S128x8192 .f32) :
    body0 (F := F) i arg2 arg3 arg4 = body (F := F) i arg2 arg3 arg4 := by
  unfold body0 core body waits
  simp only [bind_assoc, bind_onIf, dite_bind', pure_bind]
  simp only [onIf, bind_pure_unit]

end Cert.KernelIdeal.Own

end
-- ==== Proof.Obligation.lean ====
module

public import proofs.«01_k».proof.Proof.Table
public import proofs.«01_k».proof.Proof.BodyEq

/-! The body meets the pipeline's obligation at each of the eight grid points. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

section owes
variable {cfg : Pipeline.Cfg sig Λ₀} {c : Dev nD} (dat : Dat τ (Elt F) Unit ℕ UU ℕ cfg c) (t : Fin (cfg.N + 1))

/-- A pipeline's tallies at some set of waits, -/
theorem owesAt_intro {O : CellTallies nD τ sig Unit} (h : dat.owed t = O) (hr : dat.recorded t = Set.univ) :
    iprop(∃ W, owes c O W) ⊢ (dat.owesAt () t : sProp 𝕄) := by
  unfold Dat.owesAt Pipeline.owesWithin Dat.bound
  rw [h, hr]
  iintro ⟨%W, HO⟩
  iexists W
  isplitr
  · ipureintro; exact fun _ _ => Or.inl trivial
  · iexact HO

/-- and read back. -/
theorem owesAt_elim {O : CellTallies nD τ sig Unit} (h : dat.owed t = O) :
    dat.owesAt () t ⊢ (iprop(∃ W, owes c O W) : sProp 𝕄) := by
  unfold Dat.owesAt Pipeline.owesWithin
  rw [h]
  iintro ⟨%W, -, HO⟩
  iexists W
  iexact HO

end owes

variable (m : (ℓ : Loc nD τ sig) → Buf (Elt F) ℓ)

theorem N_eq (c : Dev nD) : (cfgC (F := F) c).N = 8 := N_0

/-- The kernel's function at one grid point and its three staging buffers. -/
def kernelAt (i : grid0.Coords) (arg2 : Memref sig .tc .vmem S4096x128 .bf16) (h2 : arg2.IsWhole) (arg3 : Memref sig .tc .vmem S512x8192 .bf16) (h3 : arg3.IsWhole)
    (arg4 : Memref sig .tc .vmem S128x8192 .f32) (h4 : arg4.IsWhole) :=
  cc0__body (F := F) i (Memref.whole main_v10) (Memref.isWhole_whole _) arg2 h2 arg3 h3 arg4 h4 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6

theorem defs_tc (c : Dev nD) : (defs₀ (F := F)) .tc (cfgC (F := F) c).body
    = fun a => kernelAt (grid0.coords a.1) (spec0_0.stage (a.2 0)) (hstage0_0 ((a.2 0).cast nbuf0_0)) (spec0_1.stage (a.2 1)) (hstage0_1 ((a.2 1).cast nbuf0_1))
        (spec0_2.stage (a.2 2)) (hstage0_2 ((a.2 2).cast nbuf0_2)) := rfl

/-- The body the pipeline calls at a point, over the point's staging buffers. -/
theorem prog_eq (c : Dev nD) (t : Fin (cfgC (F := F) c).N) :
    (defs₀ (F := F)) .tc (cfgC (F := F) c).body ((cfgC (F := F) c).bodyArgs t ((cfgC (F := F) c).slots t))
      = body (grid0.coords t) (spec0_0.stage ((cfgC (F := F) c).slots t 0)) (spec0_1.stage ((cfgC (F := F) c).slots t 1)) (spec0_2.stage ((cfgC (F := F) c).slots t 2)) := by
  refine (congrFun (defs_tc c) _).trans ?_
  exact (body_eq _ _ _ _ _ _ _).trans (body0_eq _ _ _ _)

theorem after_w0 (c : Dev nD) (t) : (dats m 0 c).after w0 t = xOf m c := rfl
theorem after_w1 (c : Dev nD) (t) : (dats m 0 c).after w1 t = wblk m c t.val := rfl
theorem after_w2 (c : Dev nD) (t) : (dats m 0 c).after w2 t = outAt m c t.val := rfl

/-- One grid point, at contents of the output's buffer `Y` that point may find. -/
theorem sound_point (c : Dev nD) (t : ℕ) (ht : t < 8) (i : grid0.Coords) (hi : (i 0).val = t) (arg2 : Memref sig .tc .vmem S4096x128 .bf16) (arg3 : Memref sig .tc .vmem S512x8192 .bf16)
    (arg4 : Memref sig .tc .vmem S128x8192 .f32) (Y : Vec F S128x8192 .f32) (hY : t ≠ 0 → Y = outAt m c (t - 1)) :
    iprop(stateAt m c t ∗ (∃ W, owes (c : Thread nD τ) (oweAt c t) W) ∗ owns (c : Thread nD τ) arg2 fullShare (xOf m c) ∗ owns (c : Thread nD τ) arg3 fullShare (wblk m c t)
        ∗ owns (c : Thread nD τ) arg4 fullShare Y)
      ⊢ wp frame (wpE (defs₀ (F := F)) 𝒱₀ c none) Set.univ (body i arg2 arg3 arg4) fun _ =>
        iprop(stateAt m c (t + 1) ∗ (∃ W, owes (c : Thread nD τ) (oweAt c (t + 1)) W) ∗ owns (c : Thread nD τ) arg2 fullShare (xOf m c)
          ∗ owns (c : Thread nD τ) arg3 fullShare (wblk m c t) ∗ owns (c : Thread nD τ) arg4 fullShare (outAt m c t)) := by
  rcases Nat.eq_zero_or_pos t with rfl | h0
  · exact wp_first m i hi c arg2 arg3 arg4 Y
  obtain ⟨u, rfl⟩ : ∃ u, t = u + 1 := ⟨t - 1, by omega⟩
  have e := hY (by omega)
  subst e
  by_cases h7 : u = 6
  · subst h7; exact wp_last m i hi c arg2 arg3 arg4
  have hs : stateAt m c (u + 1) = middle m c (u + 1) := by unfold stateAt; rw [if_neg (by omega), if_neg (by omega)]
  have hs' : stateAt m c (u + 1 + 1) = middle m c (u + 1 + 1) := by unfold stateAt; rw [if_neg (by omega), if_neg (by omega)]
  have ho : oweAt c (u + 1) = oweM c := by unfold oweAt; rw [if_neg (by omega), if_neg (by omega)]
  have ho' : oweAt c (u + 1 + 1) = oweM c := by unfold oweAt; rw [if_neg (by omega), if_neg (by omega)]
  have hx : outAt m c (u + 1 - 1) = acc m c u := by unfold outAt; rw [if_neg (by omega)]; rfl
  have hx' : outAt m c (u + 1) = acc m c (u + 1) := by unfold outAt; rw [if_neg (by omega)]
  rw [hs, hs', ho, ho', hx, hx']
  exact wp_between m i u hi (by omega) c arg2 arg3 arg4

theorem before_w2_some (c : Dev nD) (t : Fin (cfgC (F := F) c).N) (d) : t.val ≠ 0 → (dats m 0 c).before w2 t d = outAt m c (t.val - 1) := fun h => before_w2 m c t h d

set_option backward.isDefEq.respectTransparency.types false in
theorem body_obligation (c : Dev nD) : BodyObligation (dats m 0 c) (defs₀ (F := F)) 𝒱₀ () Set.univ := fun t => by
  have ht : t.val < 8 := t.isLt.trans_eq N_0
  rw [bigSep_W0, bigSep_W0]
  dsimp only
  have hid : idle0 2 (((pcfgs (F := F) 0).gridAt (adm c 0).1).coords t) = false := idle_w2 t
  rw [hid]
  dsimp only
  simp only [before_w0, before_w1, after_w0, after_w1, after_w2]
  rw [show (dats m 0 c).Φ t.castSucc = stateAt m c t.val from rfl, show (dats m 0 c).Φ t.succ = stateAt m c (t.val + 1) from rfl]
  sl_rw [prog_eq c t]
  iintro ⟨HS, HO, ⟨%d0, H0⟩, ⟨%d1, H1⟩, ⟨%d2, H2⟩⟩
  ihave HO := (owesAt_elim (dats m 0 c) t.castSucc (O := oweAt c t.val) rfl) $$ HO
  ihave Hp := (sound_point m c t.val ht (grid0.coords t) (coords_val t) _ _ _ _ (before_w2_some m c t d2)) $$ [HS HO H0 H1 H2]
  · isplitl [HS]; · iexact HS
    isplitl [HO]; · iexact HO
    isplitl [H0]; · iexact H0
    isplitl [H1]; · iexact H1
    iexact H2
  iapply (wp_mono _ _ _ (fun _ => ?_)) $$ Hp
  iintro ⟨HS, HO, H0, H1, H2⟩
  isplitl [HS]; · iexact HS
  isplitl [HO]; · iapply (owesAt_intro (dats m 0 c) t.succ (O := oweAt c (t.val + 1)) rfl rfl); iexact HO
  isplitl [H0]; · iexact H0
  isplitl [H1]; · iexact H1
  iexact H2

end Cert.KernelIdeal.Own

end
-- ==== Proof.Launch.lean ====
module

public import proofs.«01_k».proof.Proof.Fund
public import proofs.«01_k».proof.Proof.Order
public import proofs.«01_k».proof.Proof.Obligation

/-! The kernel's region in @main, and the run: what every device's memory and semaphores hold at the end. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat PerCore.RegionSeg PerCore.Seg)
open Cert.KernelIdeal.Gen

variable {F : FTy → Type} [FloatOps F]

local notation "𝕄" => MT nD τ sig Unit (Elt F) ℕ UU ℕ

variable (m : (ℓ : Loc nD τ sig) → Buf (Elt F) ℓ)

/-! ## The contents before and after the region -/

/-- The buffers of device `c` after the kernel: as before it, the output's array at the kernel's result. -/
abbrev V' (c : Dev nD) : Valuation τ sig (Elt F) := Function.update (V3 m c) main_v11 (res m c)

theorem V'_out (c : Dev nD) : V' m c main_v11 = res m c := Function.update_self ..
theorem V'_of (c : Dev nD) (r : Ref sig .tc) (h : r ≠ main_v11) : V' m c r = V3 m c r :=
  Function.update_of_ne (StableHlo.devRef_ne_of_ne h) ..

theorem V3_launch (c : Dev nD) (r : Ref sig .tc) (h0 : r ∉ hostOps0_W) (h1 : r ∉ hostOps0_1_W) (h2 : r ∉ hostOps0_2_W) :
    V3 m c r = m ((c : Thread nD τ).loc r) :=
  (V3_of m c r h2).trans <| (V2_of m c r h1).trans <| (V1_of m c r h0).trans rfl

/-! ## The arrays -/

theorem entry_w (c : Dev nD) (w : Fin 3) : (dats m 0 c).A w = V3 m c (Pipeline.arrRef spec0 w) := by
  match w with
  | ⟨0, _⟩ => exact (V3_launch m c main_arg0 (by decide) (by decide) (by decide)).symm
  | ⟨1, _⟩ => exact (V3_launch m c main_arg1 (by decide) (by decide) (by decide)).symm
  | ⟨2, _⟩ => exact (V3_launch m c main_v11 (by decide) (by decide) (by decide)).symm

theorem share_w (c : Dev nD) (w : Fin 3) : (dats m 0 c).share w = fullShare := by
  match w with
  | ⟨0, _⟩ => rfl
  | ⟨1, _⟩ => rfl
  | ⟨2, _⟩ => rfl

theorem whole_last (c : Dev nD) : ((cfgC (F := F) c).win w2).WholeAt t0_7 :=
  ⟨flush_w2 t0_7, fun t h => Fin.ext (of_decide_eq_true ((flush_w2 t).symm.trans h)), fun a => match a with | ⟨0, _⟩ => ⟨rfl, rfl⟩ | ⟨1, _⟩ => ⟨rfl, rfl⟩⟩

/-- The last grid point's block of the output is the whole array. -/
theorem exit_out (c : Dev nD) : (dats m 0 c).arrAt w2 (cfgC (F := F) c).N = res m c := by
  refine Dat.arrAt_eq_of_after_last (dats m 0 c) w2 t0_7 (whole_last c) (res m c) fun j => ?_
  refine (cast_eq _ _).trans ?_
  show outAt m c 7 _ = _
  unfold outAt
  rw [if_pos rfl]
  rfl

theorem exit_w (c : Dev nD) (w : Fin 3) : (dats m 0 c).arrAt w (cfgC (F := F) c).N = V' m c (Pipeline.arrRef spec0 w) := by
  match w with
  | ⟨0, _⟩ =>
    refine (Dat.arrAt_in (dats m 0 c) w0 rfl _).trans ((entry_w m c 0).trans ?_)
    exact (V'_of m c main_arg0 (by decide)).symm
  | ⟨1, _⟩ =>
    refine (Dat.arrAt_in (dats m 0 c) w1 rfl _).trans ((entry_w m c 1).trans ?_)
    exact (V'_of m c main_arg1 (by decide)).symm
  | ⟨2, _⟩ => exact (exit_out m c).trans (V'_out m c).symm

/-- The table as the pipeline's launch takes it. -/
theorem table_eq (c : Dev nD) : (fun k => V3 m c (pre0.ref k)) = tabC (F := F) c := by
  funext k
  match k with
  | ⟨0, _⟩ => exact order_eq m c
  | ⟨n + 1, h⟩ => exact absurd h (Nat.not_lt.2 (Nat.le_add_left _ _))

theorem table_held (c : Dev nD) : (Pipeline.prefHeld pre0 c (fun _ => fullShare) (tabC (F := F) c) : sProp 𝕄) = tabP (F := F) c := by
  unfold Pipeline.prefHeld
  exact bigSep_univ_eq_bigSepL [(0 : Fin 1)] (by decide) (by decide) _

/-- What bypasses the region. -/
abbrev bypass (c : Dev nD) : sProp 𝕄 := Pipeline.unscopedRestP pre0 spec0 c fun b => V3 m c b

theorem entry_split (c : Dev nD) :
    (StableHlo.held (c : Thread nD τ) (Pipeline.ucRefs τ sig) (V3 m c) : sProp 𝕄)
      ⊢ iprop((dats m 0 c).arrays ((dats m 0 c).arrAt · 0) ∗ tabP (F := F) c ∗ bypass m c) := by
  have h1 : (StableHlo.held (c : Thread nD τ) (Pipeline.ucRefs τ sig) (V3 m c) : sProp 𝕄) ⊢ unscopedBufs c fun b => V3 m c b :=
    Entails.of_eq (Pipeline.unscopedBufs_held c (V3 m c)).symm
  have h2 := Pipeline.PerCore.arrays_of_unscopedBufs (pcfgs (F := F)) adm (dats m) (p := 0) winFacts0 arr_whole0 c (share_w m c) (fun b => V3 m c b) (entry_w m c)
  have h3 := Pipeline.unscopedRest_split (Ix := Unit) (Name := ℕ) (U := UU) (Lvl := ℕ) preFacts0 c (fun b => V3 m c b)
  rw [table_eq m c, table_held] at h3
  exact h1.trans (h2.trans (sep_mono_right (Entails.of_eq h3)))

theorem exit_join (c : Dev nD) :
    iprop((dats m 0 c).arrays ((dats m 0 c).arrAt · (cfgC (F := F) c).N) ∗ tabP (F := F) c ∗ bypass m c)
      ⊢ (StableHlo.held (c : Thread nD τ) (Pipeline.ucRefs τ sig) (V' m c) : sProp 𝕄) := by
  have h3 := Pipeline.unscopedRest_split (Ix := Unit) (Name := ℕ) (U := UU) (Lvl := ℕ) preFacts0 c (fun b => V3 m c b)
  rw [table_eq m c, table_held] at h3
  have h4 := Pipeline.PerCore.unscopedBufs_split (Ix := Unit) (Name := ℕ) (U := UU) (Lvl := ℕ) (Pipeline.pinD (pcfgs (F := F)) adm) 0 c winFacts0.arr_unscoped winFacts0.arr_inj (fun b => V' m c b)
  have h5 := Pipeline.PerCore.arrays_eq (Pipeline.pinD (pcfgs (F := F)) adm) (dats m) 0 c arr_whole0 (share_w m c) ((dats m 0 c).arrAt · (cfgC (F := F) c).N)
  have h6 : (unscopedBufs c fun b => V' m c b : sProp 𝕄) ⊢ StableHlo.held (c : Thread nD τ) (Pipeline.ucRefs τ sig) (V' m c) :=
    Entails.of_eq (Pipeline.unscopedBufs_held c (V' m c))
  refine (show _ ⊢ (unscopedBufs c fun b => V' m c b : sProp 𝕄) from ?_).trans h6
  rw [h4]
  refine BI.sep_mono (Entails.of_eq (h5.trans (bigSep_congr fun w _ => by rw [exit_w m c w]))) (Entails.of_eq (h3.symm.trans ?_))
  unfold Pipeline.unscopedRest
  exact bigSep_congr fun b hb => by
    beta_reduce
    rw [V'_of m c b fun e => (Finset.mem_sdiff.mp hb).2 (by subst e; exact Finset.mem_image.mpr ⟨2, Finset.mem_univ _, rfl⟩)]

/-! ## The region -/

theorem low_cell : ∀ (c : Dev nD) (w : Fin 3) (s : Fin (spec0 w).nbuf), decode c (.dma ((spec0 w).sem s)) = none := by decide +kernel

/-- Waiting for a block of the pipeline is below everything owed. -/
theorem cells_wait (c : Dev nD) : (levAts L lv : sProp 𝕄) ⊢ Pipeline.PerCore.cellsWaits (Pipeline.pinD (pcfgs (F := F)) adm) (dats m) () 0 c :=
  Pipeline.PerCore.cellsWaits_intro (Pipeline.pinD (pcfgs (F := F)) adm) (dats m) () 0 c fun w s t => by
    refine mayWait c _ 0 (oweAt c t.val) (le_of_eq (lv_low _ (fun h => nomatch h) (low_cell c w s))) fun g u h => ?_
    unfold oweAt at h
    split at h
    · exact O₀_pos h
    split at h
    · exact absurd h (lt_irrefl _)
    · exact ⟨(oweM_pos h).1, by rw [(oweM_pos h).2]; decide⟩

theorem own_sems : Pipeline.OwnSemFacts spec0 osem := by decide +kernel

/-- What a device holds beside its buffers before the region, -/
def before (c : Dev nD) : sProp 𝕄 := iprop(((∃ κ, recs m κ) ∗ dealt (F := F) c) ∗ ∃ W, owes (c : Thread nD τ) (O₀ c) W)
/-- and after it. -/
def after (c : Dev nD) : sProp 𝕄 := iprop(semVal (barCell c) 0 ∗ ∃ W, owes (c : Thread nD τ) (0 : CellTallies nD τ sig Unit) W)

/-- What enters the pipeline's invariant beside the table and the scratch buffers. -/
def enter (c : Dev nD) : sProp 𝕄 := iprop((∃ κ, recs m κ) ∗ levAts L lv ∗ unused (F := F) c ∗ ghost (F := F) c)

/-- The scoped cells opened at the region's entry. -/
theorem enter_intro (c : Dev nD) :
    iprop((∃ κ, recs m κ) ∗ dealt (F := F) c ∗ levAts L lv ∗ bigSep Finset.univ fun x : Fin 4 × Fin 32 => semVal ((c : Thread nD τ), osem x) 0)
      ⊢ (|={Set.univ}=> enter m c : sProp 𝕄) := by
  rw [sems_eq]
  unfold dealt enter
  iintro ⟨⟨%κ, #HR⟩, ⟨Hb, Ho, Ht, Hc⟩, Hl, Hu, Hv⟩
  imod (open_cells m c κ) $$ [Ho Hv] with ⟨HP, Hr⟩
  · isplitr; · iexact HR
    isplitl [Ho]; · iexact Ho
    iexact Hv
  imodintro
  isplitr; · iexists κ; iexact HR
  isplitl [Hl]; · iexact Hl
  isplitl [Hu]; · iexact Hu
  iapply (ghost_intro (F := F) c)
  isplitl [Hb]; · iexact Hb
  isplitl [Ht]; · iexact Ht
  isplitl [Hc]; · iexact Hc
  isplitl [HP]; · iexact HP
  iexact Hr

theorem start_intro (c : Dev nD) :
    iprop(enter m c ∗ tabP (F := F) c ∗ Pipeline.scopedRest spec0 c) ⊢ (start m c : sProp 𝕄) := by
  rw [scopedRest0_eq]
  unfold start common enter
  iintro ⟨⟨HR, Hl, Hu, Hg⟩, Ht, Hxs, Hxg, Ham⟩
  isplitl [HR Hl Hu Ht]
  · isplitl [HR]; · iexact HR
    isplitl [Hl]; · iexact Hl
    isplitl [Ht]; · iexact Ht
    iexact Hu
  isplitl [Hg]; · iexact Hg
  isplitl [Hxs]; · iexact Hxs
  isplitl [Hxg]; · iexact Hxg
  iexact Ham

theorem finish_elim (c : Dev nD) :
    finish (F := F) c ⊢ (iprop((tabP (F := F) c ∗ semVal (barCell c) 0)
      ∗ (bigSep Finset.univ fun x : Fin 4 × Fin 32 => semVal ((c : Thread nD τ), osem x) 0) ∗ Pipeline.scopedRest spec0 c) : sProp 𝕄) := by
  rw [scopedRest0_eq]
  unfold finish
  iintro ⟨Ht, Hxs, Hxg, Ham, Hb, Hv⟩
  isplitl [Ht Hb]
  · isplitl [Ht]; · iexact Ht
    iexact Hb
  isplitl [Hv]; · iexact Hv
  isplitl [Hxs]; · iexact Hxs
  isplitl [Hxg]; · iexact Hxg
  iexact Ham

theorem entry (c : Dev nD) :
    iprop((StableHlo.held (c : Thread nD τ) (Pipeline.ucRefs τ sig) (V3 m c) ∗ before m c)
        ∗ (bigSep Finset.univ fun x : Fin 4 × Fin 32 => semVal ((c : Thread nD τ), osem x) 0) ∗ levAts L lv)
      ⊢ (|={Set.univ}=> iprop((dats m 0 c).arrays ((dats m 0 c).arrAt · 0) ∗ tabP (F := F) c ∗ (dats m 0 c).owesAt () 0 ∗ enter m c ∗ bypass m c) : sProp 𝕄) := by
  unfold before
  iintro ⟨⟨Hh, ⟨HR, Hd⟩, HO⟩, Hv, Hl⟩
  ihave Hh := (entry_split m c) $$ Hh
  icases Hh with ⟨Ha, Ht, Hz⟩
  imod (enter_intro m c) $$ [HR Hd Hv Hl] with Hx
  · isplitl [HR]; · iexact HR
    isplitl [Hd]; · iexact Hd
    isplitl [Hl]; · iexact Hl
    iexact Hv
  imodintro
  isplitl [Ha]; · iexact Ha
  isplitl [Ht]; · iexact Ht
  isplitl [HO]; · iapply (owesAt_intro (dats m 0 c) 0 (O := O₀ c) rfl rfl); iexact HO
  isplitl [Hx]; · iexact Hx
  iexact Hz

theorem owed_last (c : Dev nD) : (dats m 0 c).owed (Fin.last (cfgC (F := F) c).N) = 0 := by
  show oweAt c (cfgC (F := F) c).N = 0
  rw [N_eq]
  rfl

theorem state_last (c : Dev nD) : (dats m 0 c).Φ (Fin.last (cfgC (F := F) c).N) = finish (F := F) c := by
  show stateAt m c (cfgC (F := F) c).N = finish (F := F) c
  rw [N_eq]
  rfl

theorem exit (c : Dev nD) :
    iprop((dats m 0 c).arrays ((dats m 0 c).arrAt · (cfgC (F := F) c).N) ∗ (dats m 0 c).owesAt () (Fin.last (cfgC (F := F) c).N)
        ∗ (tabP (F := F) c ∗ semVal (barCell c) 0) ∗ bypass m c)
      ⊢ (|={Set.univ}=> iprop(StableHlo.held (c : Thread nD τ) (Pipeline.ucRefs τ sig) (V' m c) ∗ after (F := F) c) : sProp 𝕄) := by
  unfold after
  iintro ⟨Ha, HO, ⟨Ht, Hb⟩, Hz⟩
  imodintro
  isplitl [Ha Ht Hz]
  · iapply (exit_join m c)
    isplitl [Ha]; · iexact Ha
    isplitl [Ht]; · iexact Ht
    iexact Hz
  isplitl [Hb]; · iexact Hb
  iapply (owesAt_elim (dats m 0 c) _ (owed_last m c)); iexact HO

set_option backward.isDefEq.respectTransparency.types false in
/-- The kernel's region. -/
def region : PerCore.RegionSeg (pcfgs (F := F)) adm (dats m) () defs₀ 𝒱₀ L lv 0 where
  win := winFacts0.to₀
  block_pos := block_pos0
  stage_whole := stage_whole0
  K := Fin 4 × Fin 32
  osem := osem
  ho := own_sems
  hbody c := (body_obligation m c).loose
  hwaits c := cells_wait m c
  pre c := iprop(StableHlo.held (c : Thread nD τ) (Pipeline.ucRefs τ sig) (V3 m c) ∗ before m c)
  post c := iprop(StableHlo.held (c : Thread nD τ) (Pipeline.ucRefs τ sig) (V' m c) ∗ after (F := F) c)
  X c := enter m c
  Y c := iprop(tabP (F := F) c ∗ semVal (barCell c) 0)
  Z c := bypass m c
  hentry c := (entry m c).trans (by
    rw [← table_held]
    exact .rfl)
  hin c := (sep_mono_right (sep_mono (Entails.of_eq (table_held c)) .rfl)).trans (start_intro m c)
  hout c := (Entails.of_eq (state_last m c)).trans (finish_elim c)
  hexit c := exit m c

/-! ## The run -/

/-- A resource of the launch kept on one device. -/
def onOne (X : sProp 𝕄) (c : Dev nD) : sProp 𝕄 := if c = 0 then X else iprop(emp)
theorem all_onOne (X : sProp 𝕄) : bigSep Finset.univ (onOne X) = X := by
  rw [bigSep_univ_at _ (0 : Dev nD), bigSep_congr (s := Finset.univ.erase (0 : Dev nD)) (Ψ := fun _ => (BI.emp : sProp 𝕄))
      fun c hc => by unfold onOne; rw [if_neg (Finset.ne_of_mem_erase hc)]; rfl, BI.bigSep_emp_const]
  unfold onOne; rw [if_pos rfl]
  exact BI.equiv_iff.mp sep_emp

theorem cells_distinct : Function.Injective (Pipeline.PerCore.cellOf (nD := nD) (τ := τ) (Pipeline.pinD (pcfgs (F := F)) adm)) :=
  Pipeline.PerCore.cellOf_injective _ (fun _ _ => (by decide : Pipeline.SpecSemsDistinct spec0)) fun _ p p' h => absurd (Subsingleton.elim p p') h

/-- The element every resource of the launch comes from. -/
def u₀ : UU :=
  (initOf (Pipeline.PerCore.cells (Pipeline.pinD (pcfgs (F := F)) adm) cells_distinct) (Pipeline.PerCore.launchToks (Pipeline.pinD (pcfgs (F := F)) adm) cells_distinct),
    launchOf barCells atCells toks)

theorem all_unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

/-- The launch's holdings of a device, the buffers set apart. -/
theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ onOne (BI.own (ER F (launchOf barCells atCells toks))) c)) ∗ levAts L lv)
      ⊢ (|={Set.univ}=> bigSep Finset.univ fun c : Dev nD => iprop(StableHlo.held (c : Thread nD τ) (Pipeline.ucRefs τ sig) (V0 m c) ∗ before m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ onOne (BI.own (ER F (launchOf barCells atCells toks))) c)
      ⊢ (iprop((StableHlo.held (c : Thread nD τ) (Pipeline.ucRefs τ sig) (V0 m c) ∗ owes (c : Thread nD τ) (O₀ c) ∅)
          ∗ semVal (barCell c) 0 ∗ Pipeline.launchCred O₀ c ∗ onOne (BI.own (ER F (launchOf barCells atCells toks))) c) : sProp 𝕄) := by
    rw [show unscopedBufs c (fun b => m ((c : Thread nD τ).loc b)) = StableHlo.held (c : Thread nD τ) (Pipeline.ucRefs τ sig) (V0 m c) from Pipeline.unscopedBufs_held c (V0 m c),
      unscopedSems0_eq]
    iintro ⟨Hh, Hs, HO, Hc, -, HG⟩
    isplitl [Hh HO]
    · isplitl [Hh]; · iexact Hh
      iexact HO
    isplitl [Hs]; · iexact Hs
    isplitl [Hc]; · iexact Hc
    iexact HG
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ onOne (BI.own (ER F (launchOf barCells atCells toks))) c))
      ⊢ bigSep Finset.univ fun c : Dev nD => (iprop((StableHlo.held (c : Thread nD τ) (Pipeline.ucRefs τ sig) (V0 m c) ∗ owes (c : Thread nD τ) (O₀ c) ∅)
          ∗ semVal (barCell c) 0 ∗ Pipeline.launchCred O₀ c ∗ onOne (BI.own (ER F (launchOf barCells atCells toks))) c) : sProp 𝕄) from
    bigSep_mono fun c _ => hcore c) $$ H
  ihave H := all_unpair $$ H
  icases H with ⟨HB, H⟩
  ihave H := all_unpair $$ H
  icases H with ⟨Hs, H⟩
  ihave H := all_unpair $$ H
  icases H with ⟨Hc, H⟩
  ihave Hu := (Entails.of_eq (all_onOne (F := F) (BI.own (ER F (launchOf barCells atCells toks))))) $$ H
  imod (deal m) $$ [Hs Hc Hu] with Hd
  · isplitl [Hs]; · iexact Hs
    isplitl [Hc]; · iexact Hc
    iexact Hu
  imodintro
  iapply (show iprop(bigSep Finset.univ (fun c : Dev nD => iprop(StableHlo.held (c : Thread nD τ) (Pipeline.ucRefs τ sig) (V0 m c) ∗ owes (c : Thread nD τ) (O₀ c) ∅))
      ∗ bigSep Finset.univ fun c : Dev nD => iprop((∃ κ, recs m κ) ∗ dealt (F := F) c))
    ⊢ bigSep Finset.univ fun c : Dev nD => iprop(StableHlo.held (c : Thread nD τ) (Pipeline.ucRefs τ sig) (V0 m c) ∗ before m c) from by
      rw [← bigSep_sep']
      refine bigSep_mono fun c _ => ?_
      unfold before
      show iprop((StableHlo.held (c : Thread nD τ) (Pipeline.ucRefs τ sig) (V0 m c) ∗ owes (c : Thread nD τ) (O₀ c) ∅) ∗ (∃ κ, recs m κ) ∗ dealt (F := F) c)
        ⊢ iprop(StableHlo.held (c : Thread nD τ) (Pipeline.ucRefs τ sig) (V0 m c) ∗ ((∃ κ, recs m κ) ∗ dealt (F := F) c) ∗ ∃ W, owes (c : Thread nD τ) (O₀ c) W)
      iintro ⟨⟨Hh, HO⟩, Hd⟩
      isplitl [Hh]; · iexact Hh
      isplitl [Hd]; · iexact Hd
      iexists ∅; iexact HO)
  isplitl [HB]; · iexact HB
  iexact Hd

/-- @main's items on device `c`. -/
abbrev items (c : Dev nD) : List (PerCore.Seg (pcfgs (F := F)) adm (dats m) () defs₀ 𝒱₀ L lv) :=
  [.host (seg0 m 𝒱₀ L lv (fun _ => before m) c), .host (seg1 m 𝒱₀ L lv (fun _ => before m)), .host (seg2 m 𝒱₀ L lv (fun _ => before m)), .region (region m)]

theorem only_bar : ∀ sm : SemLoc sig, sm.isScoped .tc = false → sm = .reg barSem := by decide +kernel

set_option backward.isDefEq.respectTransparency.types false in
/-- From any memory, with every counter zero: the 32 devices terminate, both arguments as launched, the result's block on every
device the kernel's value, and every counter zero. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v11) = res m c) ∧ r.2.sem = fun _ => 0) :=
  Pipeline.PerCore.θ_run_regions_kit_sems (pcfgs (F := F)) adm (dats m) () cells_distinct (EP F) defs₀ 𝒱₀ L lv m ρ main (items m)
    (fun c Q => by
      rewrite [main_chain c, PerCore.Seg.run_eq_chain,
        show (items m c).map PerCore.Seg.prog = [
          StableHlo.seq (hostOps0 c),
          StableHlo.seq hostOps0_1,
          StableHlo.seq hostOps0_2,
          Prog.lift (.customCall (Pipeline.entry 0) ()) ] from rfl]
      exact .rfl)
    (fun c => by simp only [items, PerCore.Seg.pipes_host, PerCore.Seg.pipes_region, PerCore.Seg.pipes_nil]; decide)
    (O₀ := O₀) (hL := L_of_ne) (G := onOne (BI.own (ER F (launchOf barCells atCells toks)))) (u₀ := u₀ (F := F))
    (hu₀ := by
      unfold u₀
      iintro Hu
      ihave H := (ownU_pair _ _) $$ Hu
      icases H with ⟨HP, HX⟩
      imodintro
      isplitl [HP]; · iexact HP
      rw [all_onOne]; iexact HX)
    (T₀ := fun c => iprop(StableHlo.held (c : Thread nD τ) (Pipeline.ucRefs τ sig) (V0 m c) ∗ before m c))
    (Tₙ := fun c => iprop(StableHlo.held (c : Thread nD τ) (Pipeline.ucRefs τ sig) (V' m c) ∗ semVal (barCell c) 0))
    (hch := fun c => by
      refine ⟨.rfl, .rfl, .rfl, .rfl, ?_⟩
      show iprop(StableHlo.held (c : Thread nD τ) (Pipeline.ucRefs τ sig) (V' m c) ∗ after (F := F) c)
        ⊢ iprop((StableHlo.held (c : Thread nD τ) (Pipeline.ucRefs τ sig) (V' m c) ∗ semVal (barCell c) 0) ∗ ∃ W, owes (c : Thread nD τ) (0 : CellTallies nD τ sig Unit) W)
      unfold after
      iintro ⟨Hh, Hb, HO⟩
      isplitr [HO]
      · isplitl [Hh]; · iexact Hh
        iexact Hb
      iexact HO)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v11) = res m c) ∧ s.sem (barCell c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V' m c) s') $$ [Hh HSI]
      · isplitl [Hh]; · iexact Hh
        iexact HSI
      icases Hr with ⟨%h, HSI⟩
      imodintro
      isplitr
      · ipureintro
        have hr (r : Ref sig .tc) (hs : ¬ r.isScoped = true) := h (Proc.devRef .tc r) (Finset.mem_filter.mpr ⟨StableHlo.devRef_mem_tcRefs r, hs⟩)
        exact ⟨⟨(hr main_arg0 (by decide)).trans ((V'_of m c main_arg0 (by decide)).trans (V3_launch m c main_arg0 (by decide) (by decide) (by decide))),
          (hr main_arg1 (by decide)).trans ((V'_of m c main_arg1 (by decide)).trans (V3_launch m c main_arg1 (by decide) (by decide) (by decide))),
          (hr main_v11 (by decide)).trans (V'_out m c)⟩, by simpa using hb⟩
      iexact HSI)
    (hQ := fun s h hs => ⟨fun c => (h c).1, sem_eq_zero hs fun c sm hsm => by
      obtain rfl := only_bar sm hsm
      exact (h c).2⟩)

end Cert.KernelIdeal.Own

end
-- ==== Proof.Quantise.lean ====
module

public import Idealize.ShloMosaic.PureOps.Ideal.Laws

/-! The quantiser over the extended reals. There the rounding to the small format is the identity, so quantising a
nonnegative value by a scale and multiplying by the scale again gives the value back, whichever of the two programs'
spellings is meant; only where the greatest value is `⊤` do both give zero instead. -/

@[expose] public section

noncomputable section

namespace Cert.KernelIdeal.Own

open Idealize.ShloMosaic

/-- What both programs leave of `y` where the greatest value is `g`. -/
def kept (g y : EReal) : EReal := if g = ⊤ then 0 else y

/-- The value and the greatest value are both real, unless the latter is `⊤`. -/
theorem real_of_le {y g : EReal} (h0 : 0 ≤ y) (hy : y ≤ g) (hg : g ≠ ⊤) :
    ∃ a b : ℝ, y = (a : EReal) ∧ g = (b : EReal) ∧ 0 ≤ a ∧ a ≤ b := by
  have hb : g ≠ ⊥ := fun e => by rw [e] at hy; exact absurd (h0.trans hy) (by simp)
  have ha : y ≠ ⊥ := fun e => by rw [e] at h0; exact absurd h0 (by simp)
  have ha' : y ≠ ⊤ := fun e => by rw [e] at hy; exact hg (top_le_iff.mp hy)
  lift y to ℝ using ⟨ha', ha⟩
  lift g to ℝ using ⟨hg, hb⟩
  exact ⟨y, g, rfl, rfl, by exact_mod_cast h0, by exact_mod_cast hy⟩

theorem div_coe {a b : ℝ} (h : b ≠ 0) : Ideal.div (a : EReal) (b : EReal) = ((a / b : ℝ) : EReal) := by
  unfold Ideal.div
  rw [if_neg (by exact_mod_cast h), div_eq_mul_inv, EReal.coe_mul, EReal.coe_inv]

theorem div_top (a : EReal) : Ideal.div a ⊤ = 0 := by
  unfold Ideal.div
  rw [if_neg (by simp), EReal.inv_top, mul_zero]

/-- The kernel's spelling: the greatest value times a constant is the scale, and its reciprocal is multiplied in. -/
theorem quantised_by_reciprocal {y g : EReal} (h0 : 0 ≤ y) (hy : y ≤ g) {k : ℝ} (hk : 0 < k) :
    y * Ideal.div 1 (g * (k : EReal)) * (g * (k : EReal)) = kept g y := by
  unfold kept
  split
  · next h =>
    rw [h, EReal.top_mul_coe_of_pos hk, div_top, mul_zero, zero_mul]
  · next h =>
    obtain ⟨a, b, rfl, rfl, ha, hab⟩ := real_of_le h0 hy h
    rcases ha.eq_or_lt with rfl | hpos
    · rw [EReal.coe_zero, zero_mul, zero_mul]
    · have hb0 : b ≠ 0 := (hpos.trans_le hab).ne'
      have hb : b * k ≠ 0 := mul_ne_zero hb0 hk.ne'
      rw [← EReal.coe_mul, ← EReal.coe_one, div_coe hb, ← EReal.coe_mul, ← EReal.coe_mul]
      congr 1
      field_simp

/-- The reference's spelling: the greatest value over a constant is the scale, the quotient by it is clipped to the
constant and multiplied by the scale. No quotient is beyond the constant, so the clip changes none. -/
theorem quantised_by_quotient {y g : EReal} (h0 : 0 ≤ y) (hy : y ≤ g) {k : ℝ} (hk : 0 < k) :
    min (k : EReal) (max ((-k : ℝ) : EReal) (Ideal.div y (Ideal.div g (k : EReal)))) * Ideal.div g (k : EReal) = kept g y := by
  unfold kept
  split
  · next h =>
    have hs : Ideal.div g (k : EReal) = ⊤ := by
      unfold Ideal.div
      rw [if_neg (by exact_mod_cast hk.ne'), h, ← EReal.coe_inv, EReal.top_mul_coe_of_pos (inv_pos.mpr hk)]
    rw [hs, div_top, max_eq_right (by exact_mod_cast (neg_neg_of_pos hk).le), min_eq_right (by exact_mod_cast hk.le), zero_mul]
  · next h =>
    obtain ⟨a, b, rfl, rfl, ha, hab⟩ := real_of_le h0 hy h
    rw [div_coe hk.ne']
    rcases (ha.trans hab).eq_or_lt with rfl | hb
    · rw [zero_div, EReal.coe_zero, mul_zero, le_antisymm hab ha, EReal.coe_zero]
    · have hs : b / k ≠ 0 := (div_pos hb hk).ne'
      have hq : a / (b / k) ≤ k := by
        rw [div_le_iff₀ (div_pos hb hk)]
        field_simp
        exact hab
      have hq0 : -k ≤ a / (b / k) := (neg_neg_of_pos hk).le.trans (div_nonneg ha (div_pos hb hk).le)
      rw [div_coe hs, max_eq_right (by exact_mod_cast hq0), min_eq_right (by exact_mod_cast hq), ← EReal.coe_mul]
      congr 1
      field_simp

/-- The programs' constants: the scale's factor and the bound of the small format are positive reals. -/
theorem factor_pos : ∃ k : ℝ, 0 < k ∧ Ideal.ofBits .f32 0x3B124925#32 = (k : EReal) := by
  refine ⟨_, ?_, by simp [Ideal.ofBits, Ideal.ieee]; rfl⟩
  positivity
theorem bound_pos : ∃ k : ℝ, 0 < k ∧ Ideal.ofBits .f32 0x43E00000#32 = (k : EReal) ∧ Ideal.ofBits .f32 0xC3E00000#32 = ((-k : ℝ) : EReal) := by
  refine ⟨448, by norm_num, ?_, ?_⟩
  · simp [Ideal.ofBits, Ideal.ieee]; norm_num; rw [← EReal.coe_mul]; norm_num
  · simp [Ideal.ofBits, Ideal.ieee]; norm_num; rw [← EReal.coe_mul]; norm_num
theorem one_word : Ideal.ofBits .f32 0x3F800000#32 = 1 := by
  simp [Ideal.ofBits, Ideal.ieee]; rw [← EReal.coe_mul, ← EReal.coe_one]; norm_num
theorem bottom_word : Ideal.ofBits .f32 0xFF800000#32 = ⊥ := by
  simp [Ideal.ofBits, Ideal.ieee]

end Cert.KernelIdeal.Own

end
-- ==== Proof.Greatest.lean ====
module

public import Idealize.ShloMosaic.PureOps.Ideal.Laws
public import Idealize.ShloMosaic.PureOps.Reduce
public import Mathlib.Order.CompleteLattice.Finset

/-! A maximum over a whole array, at extended reals: the supremum of its elements, whatever its shape. -/

@[expose] public section

noncomputable section

namespace Cert.KernelIdeal.Own

open Idealize.ShloMosaic

/-- A reduction by `max` from `⊥` into a shape of one element is the supremum of all elements. -/
theorem greatest {s t : Shape} {axes : List (Fin s.rank)} (src : FVec Ideal s .f32) (h : s.Reduces axes t) (ht : ∀ b, t.size b = 1)
    (hφ : FKind.Formats .f32) (hacc : (0xFF800000#32 : BitVec FTy.f32.bits) = FKind.maximumf.neutral .f32 hφ) (j : t.Idx) :
    multiReduction .maximumf axes t src 0xFF800000#32 h hφ hacc j = ⨆ i, src i := by
  rw [multiReduction_maximumf_eq_fold, Finset.filter_true_of_mem fun i _ => funext fun b => Fin.ext (by
    have := (h.drop i b).isLt; have := (j b).isLt; have := ht b; omega)]
  rw [← Finset.sup_univ_eq_iSup]
  show Finset.univ.fold max (Ideal.ofBits .f32 0xFF800000#32) src = _
  rw [show Ideal.ofBits .f32 0xFF800000#32 = ⊥ by simp [Ideal.ofBits, Ideal.ieee]]
  rfl

/-- Reshaping an array does not change its supremum. -/
theorem iSup_shapeCast {s t : Shape} (x : s.Idx → EReal) (h : s.ShapeCasts t) : ⨆ j, shapeCast t x h j = ⨆ i, x i :=
  (Shape.reshapeEquiv h).iSup_comp (g := x)

end Cert.KernelIdeal.Own

end
-- ==== Proof.Reference.lean ====
module

public import proofs.«01_k».proof.Proof.Gen.ReferenceIdeal.Value
public import proofs.«01_k».proof.Proof.Quantise
public import proofs.«01_k».proof.Proof.Greatest
public import Idealize.ShloMosaic.Lib.StackMember
public import Idealize.ShloMosaic.Lib.ValueIdx

/-! The reference at extended reals: the result array as a function of the two arguments. -/

@[expose] public section

noncomputable section

namespace Cert.ReferenceIdeal.Own

open Idealize.ShloMosaic Idealize.ShloMosaic.TcCoe Idealize.ShloMosaic.ValueIdx Idealize.SL.Sem
open Cert.ReferenceIdeal Cert.ReferenceIdeal.Gen Cert.KernelIdeal.Own
open scoped BigOperators

/-- The rectified product of two matrices at an index. -/
def product (A : S4096x4096.Idx → EReal) (B : S4096x8192.Idx → EReal) : S4096x8192.Idx → EReal :=
  fun i => max (∑ k : Fin 4096, A (ix2 (i 0) k) * B (ix2 k (i 1))) 0

/-- The result: the product, quantised by its greatest value and scaled back. -/
def result (A : S4096x4096.Idx → EReal) (B : S4096x8192.Idx → EReal) : S4096x8192.Idx → EReal :=
  fun i => kept (⨆ j, product A B j) (product A B i)

theorem product_nonneg (A : S4096x4096.Idx → EReal) (B : S4096x8192.Idx → EReal) (i : S4096x8192.Idx) : 0 ≤ product A B i :=
  le_max_right _ _

/-- What the quantiser makes of an array with no negative element. -/
theorem quantise_eq (v : Vec Ideal S4096x8192 .f32) (hv : ∀ i, (0 : EReal) ≤ v i) :
    k0_pay1 (F := Ideal) v = fun i => kept (⨆ j, v j) (v i) := by
  obtain ⟨k, hk, e, e'⟩ := bound_pos
  have ht : ∀ b, S1.size b = 1 := by decide
  have habs : (absf (shapeCast S4096x8192 v shapeCasts_S4096x8192_S4096x8192) : FVec Ideal S4096x8192 .f32) = v := by
    rw [shapeCast_self]
    funext i
    show max (v i) (-(v i)) = v i
    exact max_eq_left ((EReal.neg_le_neg_iff.mpr (hv i)).trans (by rw [neg_zero]; exact hv i))
  have hmax : multiReduction .maximumf [1, 2] S1 (shapeCast S1x4096x8192 v shapeCasts_S4096x8192_S1x4096x8192 : FVec Ideal S1x4096x8192 .f32)
      0xFF800000#32 reduces_S1x4096x8192_S1 (.inl rfl) rfl = fun _ => ⨆ j, v j :=
    funext fun j => (greatest _ _ ht _ _ j).trans (iSup_shapeCast v _)
  funext i
  unfold k0_pay1
  dsimp only
  rw [habs, shapeCast_self, hmax]
  show min (Ideal.ofBits .f32 0x43E00000#32) (max (Ideal.ofBits .f32 0xC3E00000#32)
      (Ideal.div (v i) (Ideal.div (⨆ j, v j) (Ideal.ofBits .f32 0x43E00000#32)))) * Ideal.div (⨆ j, v j) (Ideal.ofBits .f32 0x43E00000#32) = _
  rw [e, e']
  exact quantised_by_quotient (hv i) (le_iSup v i) hk

variable (m : (ℓ : Loc nD τ sig) → Buf (Elt Ideal) ℓ) (ρ : Dev nD → PrngReg)

/-- The arguments. -/
abbrev argA (c : Dev nD) : S4096x4096.Idx → EReal := m ((c : Thread nD τ).loc main_arg0)
abbrev argB (c : Dev nD) : S4096x8192.Idx → EReal := m ((c : Thread nD τ).loc main_arg1)

theorem dims_plain : dot_S4096x4096_S4096x8192_S4096x8192_1_0_0_1_n_n = DotDims.plain 4096 4096 8192 := rfl

/-- What the kernel's region finds in its operand: the rectified product. -/
theorem operand_eq (c : Dev nD) : V m c main_v4 = product (argA m c) (argB m c) := by
  have h : V m c main_v4 = maximumf (Host.dotGeneral dot_S4096x4096_S4096x8192_S4096x8192_1_0_0_1_n_n none
      (extf .f32 (m ((c : Thread nD τ).loc main_arg0) : FVec Ideal S4096x4096 .bf16) bitsLt_bf16_f32)
      (extf .f32 (m ((c : Thread nD τ).loc main_arg1) : FVec Ideal S4096x8192 .bf16) bitsLt_bf16_f32))
      (broadcastInDim S4096x8192 ![] bcast_S_S4096x8192 (constant S_ .f32 0x00000000#32 : FVec Ideal S_ .f32)) := by
    unfold_abbrev_sides
    after_results
  rw [h]
  funext i
  obtain ⟨a, b, rfl⟩ : ∃ (a : Fin 4096) (b : Fin 8192), i = ix2 a b := ⟨i 0, i 1, eq_ix2 i⟩
  show max (Host.dotGeneral dot_S4096x4096_S4096x8192_S4096x8192_1_0_0_1_n_n none _ _ (ix2 a b)) (Ideal.ofBits .f32 0x00000000#32) = _
  rw [dims_plain, StackMember.dotGeneral_plain_apply, Ideal.ofBits_zero_f32]
  rfl

/-- The one grid point. -/
def t₀ : Fin cfg0.N := ⟨0, by decide⟩

/-- The result array after the run. -/
theorem final_eq (c : Dev nD) : (dats m 0 c).arrAt 1 cfg0.N = result (argA m c) (argB m c) := by
  have ho := Value.blocks1 m c t₀ (by decide)
  have hz1 : (fun a => (win0_1.index t₀) a * main_v5.ty.shape.size a) = fun _ => 0 := funext fun a => by fin_cases a <;> decide
  have hr1 := fun f => Memref.read_access_unit_zero (Elt Ideal) main_v5 hz1 (fun a => by fin_cases a <;> decide) f
  have hz0 : (fun a => (win0_0.index t₀) a * main_v4.ty.shape.size a) = fun _ => 0 := funext fun a => by fin_cases a <;> decide
  have hr0 := fun f => Memref.read_access_unit_zero (Elt Ideal) main_v4 hz0 (fun a => by fin_cases a <;> decide) f
  have hz : (![0, 0] : Fin S4096x8192.rank → Nat) = fun _ => 0 := funext fun a => by fin_cases a <;> rfl
  rw [hr1, Value.flushed1] at ho
  rw [ho]
  unfold out0_1 iblk
  rw [View.canon_unit_zero hz, View.ld_unit_zero hz, hr0]
  show k0_pay1 (F := Ideal) (V m c main_v4) = _
  rw [operand_eq, quantise_eq _ (product_nonneg _ _)]
  rfl

/-- The reference's run: the result as said, the arguments as they were. -/
theorem run : θ_run (defs (F := Ideal)) (onTc (τ := τ) (main (F := Ideal))) ⟨m, fun _ => 0, ρ⟩ fun r => ∀ c : Dev nD,
    r.2.mem ((c : Thread nD τ).loc main_v5) = result (argA m c) (argB m c)
    ∧ r.2.mem ((c : Thread nD τ).loc main_arg0) = m ((c : Thread nD τ).loc main_arg0)
    ∧ r.2.mem ((c : Thread nD τ).loc main_arg1) = m ((c : Thread nD τ).loc main_arg1) :=
  (θ_run (defs (F := Ideal)) _ _).mono (fun _ h c => ⟨(h c).1.trans (final_eq m c), (h c).2⟩) (Value.run_blocks m ρ)

end Cert.ReferenceIdeal.Own

end
-- ==== Proof.Value.lean ====
module

public import proofs.«01_k».proof.Proof.Cells
public import proofs.«01_k».proof.Proof.Reference
public import Idealize.ShloMosaic.Lib.MatmulPlain

/-! The kernel at extended reals: each device's block of the result is its block of the reference's result. -/

@[expose] public section

noncomputable section

namespace Cert.KernelIdeal.Own

open Idealize.ShloMosaic Idealize.ShloMosaic.TcCoe Idealize.ShloMosaic.ValueIdx Idealize.SL.Sem Cert.KernelIdeal.Gen
open Cert.ReferenceIdeal.Own (product result product_nonneg)
open scoped BigOperators

variable (m : (ℓ : Loc nD τ sig) → Buf (Elt Ideal) ℓ)

/-! ## The accumulated product -/

/-- The term of column `k` of the gathered operand. -/
def term (c : Dev nD) (r : Fin 128) (n : Fin 8192) (k : Fin 4096) : EReal := xg m c (ix2 r k) * wOf m c (ix2 k n)

/-- One group's part of the sum. -/
def part (c : Dev nD) (r : Fin 128) (n : Fin 8192) (g : Fin 8) : EReal :=
  ∑ k : Fin 512, term m c r n ⟨512 * g.val + k.val, by omega⟩

theorem dims_plain : dot_S128x512_S512x8192_S128x8192_1_0_0_1_n_n = DotDims.plain 128 512 8192 := rfl

/-- A grid point's product is its group's part. -/
theorem block_product (c : Dev nD) (t : Nat) (r : Fin 128) (n : Fin 8192) :
    k0_pay1 (F := Ideal) (xblk m c t) (wblk m c t) (ix2 r n) = part m c r n (gOf c t) := by
  unfold k0_pay1
  rw [shapeCast_self, dims_plain]
  refine (Ideal.matmul_plain_apply none _ _ _ r n).trans ?_
  show Ideal.ofBits .f32 0x00000000#32 + _ = _
  rw [Ideal.ofBits_zero_f32, zero_add]
  refine Finset.sum_congr rfl fun k _ => ?_
  unfold term
  congr 1
  refine congrArg (wOf m c) (funext fun a => ?_)
  match a with
  | ⟨0, _⟩ => rfl
  | ⟨1, _⟩ => rfl

/-- After grid point `t` the block holds the parts of the groups so far. -/
theorem acc_eq_sum (c : Dev nD) (r : Fin 128) (n : Fin 8192) :
    ∀ t, acc m c t (ix2 r n) = ∑ s ∈ Finset.range (t + 1), part m c r n (gOf c s)
  | 0 => by
    rw [Finset.sum_range_one, acc.eq_1]
    exact block_product m c 0 r n
  | t + 1 => by
    rw [Finset.sum_range_succ, ← acc_eq_sum c r n t, ← block_product m c (t + 1) r n, acc.eq_2]
    unfold k0_pay2
    rw [shapeCast_self]
    rfl

/-- The eight grid points meet the eight groups once each. -/
theorem groups_met (c : Dev nD) : Function.Bijective fun s : Fin 8 => gOf c s.val :=
  Finite.injective_iff_bijective.mp (by
    have h : ∀ (c : Dev nD) (s t : Fin 8), gOf c s.val = gOf c t.val → s = t := by decide +kernel
    exact fun s t e => h c s t e)

/-- So the block ends holding the whole sum. -/
theorem acc_last (c : Dev nD) (r : Fin 128) (n : Fin 8192) : acc m c 7 (ix2 r n) = ∑ k, term m c r n k := by
  rw [acc_eq_sum, Finset.sum_range]
  rw [(groups_met c).sum_comp fun g => part m c r n g]
  unfold part
  rw [← Fintype.sum_prod_type' fun (g : Fin 8) (k : Fin 512) => term m c r n ⟨512 * g.val + k.val, by omega⟩]
  refine Fintype.sum_equiv finProdFinEquiv _ _ fun x => congrArg (term m c r n) (Fin.ext ?_)
  show 512 * x.1.val + x.2.val = x.2.val + 512 * x.1.val
  omega

/-! ## Against the whole arrays -/

variable (A : Cert.ReferenceIdeal.S4096x4096.Idx → EReal) (B : Cert.ReferenceIdeal.S4096x8192.Idx → EReal)

/-- Every device holds its columns of the one operand and all of the other. -/
def Held : Prop := ∀ c : Dev nD, m ((c : Thread nD τ).loc main_arg0) = Layout.block ⟨2, ![4096, 128]⟩ ⟨2, ![4096, 4096]⟩ 1 32 c A
  ∧ m ((c : Thread nD τ).loc main_arg1) = B

/-- How the rows of the result are dealt. -/
theorem tiles : Layout.Tiles ⟨2, ![128, 8192]⟩ ⟨2, ![4096, 8192]⟩ 0 32 := by decide
/-- Where an element of device `c`'s block is in the whole result. -/
def at_ (c : Dev nD) (i : S128x8192.Idx) : Cert.ReferenceIdeal.S4096x8192.Idx := tiles.idx c i

variable {m A B} (hm : Held m A B)
include hm

theorem term_eq (c : Dev nD) (r : Fin 128) (n : Fin 8192) (k : Fin 4096) :
    term m c r n k = A (ix2 ((at_ c (ix2 r n)) 0) k) * B (ix2 k n) := by
  unfold term
  congr 1
  · show m _ _ = _
    rw [(hm _).1]
    refine congrArg A (funext fun b => Fin.ext ?_)
    match b with
    | ⟨0, _⟩ => show 128 * c.val + r.val = c.val * 128 + r.val; omega
    | ⟨1, _⟩ => exact Nat.div_add_mod' k.val 128
  · show m _ _ = _
    rw [(hm _).2]

/-- The rectified block of device `c` is its block of the rectified product. -/
theorem relu_eq (c : Dev nD) (i : S128x8192.Idx) : k0_pay6 (acc m c 7) i = product A B (at_ c i) := by
  obtain ⟨r, n, rfl⟩ : ∃ (r : Fin 128) (n : Fin 8192), i = ix2 r n := ⟨i 0, i 1, eq_ix2 i⟩
  unfold k0_pay6
  rw [shapeCast_self]
  show max (acc m c 7 (ix2 r n)) (Ideal.ofBits .f32 0x00000000#32) = _
  rw [Ideal.ofBits_zero_f32, acc_last]
  refine congrArg (max · 0) (Finset.sum_congr rfl fun k _ => ?_)
  rw [term_eq hm]
  refine congrArg (_ * B ·) (funext fun b => Fin.ext ?_)
  match b with
  | ⟨0, _⟩ => rfl
  | ⟨1, _⟩ => rfl

/-- A device's slot holds the greatest element of its block. -/
theorem mx_eq (c : Dev nD) (i : S1x8x128.Idx) : mx m c i = ⨆ j, product A B (at_ c j) := by
  have ht : ∀ b, S1.size b = 1 := by decide
  have hmax : multiReduction .maximumf [1, 2] S1 (shapeCast S1x128x8192 (k0_pay6 (acc m c 7)) shapeCasts_S128x8192_S1x128x8192 : FVec Ideal S1x128x8192 .f32)
      0xFF800000#32 reduces_S1x128x8192_S1 (.inl rfl) rfl = fun _ => ⨆ j, product A B (at_ c j) :=
    funext fun j => ((greatest _ _ ht _ _ j).trans (iSup_shapeCast _ _)).trans (iSup_congr (relu_eq hm c))
  unfold mx k0_pay8 k0_pay7
  dsimp only
  rw [hmax]
  rfl

/-- Every device comes to hold the greatest element of the whole product. -/
theorem greatest_eq (c : Dev nD) : k0_pay9 (am m c) = fun _ => ⨆ j, product A B j := by
  have ht : ∀ b, S1.size b = 1 := by decide
  funext j
  unfold k0_pay9
  dsimp only
  refine ((greatest _ _ ht _ _ j).trans (iSup_shapeCast _ _)).trans ?_
  have h : ∀ i : S32x8x128.Idx, am m c i = ⨆ j, product A B (at_ (srcDev c (i 0).val) j) := fun i => mx_eq hm _ _
  rw [iSup_congr h]
  refine le_antisymm (iSup_le fun i => iSup_le fun j => le_iSup (product A B) _) (iSup_le fun J => ?_)
  have h0 : (J 0).val < 4096 := (J 0).isLt
  have hc : c.val < 32 := c.isLt
  let k : Fin 32 := ⟨(c.val + 32 - (J 0).val / 128) % 32, Nat.mod_lt _ (by decide)⟩
  let i : S32x8x128.Idx := ix3 k (0 : Fin 8) (0 : Fin 128)
  let l : S128x8192.Idx := ix2 ⟨(J 0).val % 128, Nat.mod_lt _ (by decide)⟩ (J 1)
  refine le_trans (le_of_eq ?_) (le_iSup_of_le i (le_iSup (fun j => product A B (at_ (srcDev c (i 0).val) j)) l))
  refine congrArg (product A B) (funext fun b => Fin.ext ?_)
  match b with
  | ⟨0, _⟩ =>
    show (J 0).val = (c.val + 32 - (c.val + 32 - (J 0).val / 128) % 32) % 32 * 128 + (J 0).val % 128
    omega
  | ⟨1, _⟩ => rfl

/-- Device `c`'s block of the kernel's result is its block of the reference's. -/
theorem res_eq (c : Dev nD) : res m c = Layout.block ⟨2, ![128, 8192]⟩ ⟨2, ![4096, 8192]⟩ 0 32 c (result A B) := by
  obtain ⟨k, hk, e⟩ := factor_pos
  unfold res
  rw [greatest_eq hm]
  funext i
  unfold k0_pay3
  show k0_pay6 (acc m c 7) i * Ideal.div (Ideal.ofBits .f32 0x3F800000#32) ((⨆ j, product A B j) * Ideal.ofBits .f32 0x3B124925#32)
    * ((⨆ j, product A B j) * Ideal.ofBits .f32 0x3B124925#32) = result A B (at_ c i)
  rw [relu_eq hm, one_word, e]
  exact quantised_by_reciprocal (product_nonneg A B _) (le_iSup (product A B) _) hk

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- What the kernel's frame says, said of the other print of the kernel at the machine's own floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)

/-- The two prints of the kernel have the same text, so the two statements are one by unfolding. -/
theorem same_text : Cert.quiescent_Kernel = FrameAtBits := by chain_rfl

/-- The kernel's frame: the run at any float values, its value dropped. -/
theorem frame_kernel : Cert.quiescent_Kernel := Eq.mpr same_text fun m ρ _ =>
  (θ_run Cert.KernelIdeal.defs _ _).mono (fun _ h => ⟨fun c => ⟨(h.1 c).1, (h.1 c).2.1⟩, h.2⟩) (Cert.KernelIdeal.Own.run_main (F := Bits) m ρ)

/-- The same at extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Own.run_main (F := Ideal) m ρ)

/-- The reference's frame. -/
theorem frame_reference : Cert.quiescent_ReferenceIdeal := fun m ρ _ => Cert.ReferenceIdeal.Gen.frame m ρ

/-- The kernel's result is the reference's, each device's block its part. -/
theorem algebraic : Cert.algebraic_KernelIdeal_ReferenceIdeal := fun m ρ m' ρ' _ hm =>
  ⟨Cert.ReferenceIdeal.Own.result (Cert.ReferenceIdeal.Own.argA m' 0) (Cert.ReferenceIdeal.Own.argB m' 0),
    (θ_run Cert.KernelIdeal.defs _ _).mono
      (fun _ h c => ⟨(h.1 c).2.2.trans (Cert.KernelIdeal.Own.res_eq (fun d => hm d) c), (h.1 c).1, (h.1 c).2.1⟩)
      (Cert.KernelIdeal.Own.run_main (F := Ideal) m ρ),
    (θ_run Cert.ReferenceIdeal.defs _ _).mono (fun _ h => h 0) (Cert.ReferenceIdeal.Own.run m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
